-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S2048x2048 : Shape := ⟨2, ![2048, 2048]⟩
abbrev S16 : Shape := ⟨1, ![16]⟩
abbrev S8 : Shape := ⟨1, ![8]⟩
abbrev S_ : Shape := ⟨0, ![]⟩
abbrev S64 : Shape := ⟨1, ![64]⟩
abbrev S1x2048x2048 : Shape := ⟨3, ![1, 2048, 2048]⟩
abbrev S1 : Shape := ⟨1, ![1]⟩
abbrev S32x2048 : Shape := ⟨2, ![32, 2048]⟩
abbrev S1x32x2048 : Shape := ⟨3, ![1, 32, 2048]⟩
abbrev S32 : Shape := ⟨1, ![32]⟩
abbrev S32x1 : Shape := ⟨2, ![32, 1]⟩
abbrev S1x2048 : Shape := ⟨2, ![1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S2048x2048, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v36 : BitVec 32 := Scalar.muli v5 c2048_i32
  let c0_i32_24 : BitVec 32 := 0#32
  ![0, v36.toNat, 0]
def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_28 : BitVec 32 := 2#32
  let v42 : BitVec 32 := Scalar.muli v9 c2_i32_28
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v44 : BitVec 32 := Scalar.muli v8 c1_i32_29
  let v45 : BitVec 32 := Scalar.addi v43 v44
  v45.toNat
def k0_dev2 (d0 : Dev nD) : Nat :=
  let c0_i32_32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_31 : BitVec 32 := 4#32
  let v46 : BitVec 32 := Scalar.muli v10 c4_i32_31
  let v47 : BitVec 32 := Scalar.addi c0_i32_32 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v48 : BitVec 32 := Scalar.muli v5 c2_i32_33
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v50 : BitVec 32 := Scalar.muli v8 c1_i32_34
  let v51 : BitVec 32 := Scalar.addi v49 v50
  v51.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v52 : BitVec 32 := Scalar.muli v2 c4_i32_36
  let v53 : BitVec 32 := Scalar.addi c0_i32_37 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v54 : BitVec 32 := Scalar.muli v5 c2_i32_38
  let v55 : BitVec 32 := Scalar.addi v53 v54
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_39 : BitVec 32 := 1#32
  let v56 : BitVec 32 := Scalar.muli v11 c1_i32_39
  let v57 : BitVec 32 := Scalar.addi v55 v56
  v57.toNat
def k0_off2 (d0 : Dev nD) (c0_i32_45 : BitVec 32) : Fin 2 → Nat :=
  let c512_i32_44 : BitVec 32 := 512#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v63 : BitVec 32 := Scalar.muli c512_i32_44 v13
  let v64 : BitVec 32 := Scalar.addi v63 c0_i32_45
  let c0_i32_53 : BitVec 32 := 0#32
  ![v64.toNat, 0]
def k0_off3 (d0 : Dev nD) (c0_i32_43 : BitVec 32) : Fin 3 → Nat :=
  let c0_i32_46 : BitVec 32 := 0#32
  let c1_i32_40 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_40 v5
  let c2048_i32_41 : BitVec 32 := 2048#32
  let v59 : BitVec 32 := Scalar.muli v58 c2048_i32_41
  let c512_i32_42 : BitVec 32 := 512#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v60 : BitVec 32 := Scalar.muli c512_i32_42 v13
  let v61 : BitVec 32 := Scalar.addi v59 v60
  let v62 : BitVec 32 := Scalar.addi v61 c0_i32_43
  let c0_i32_54 : BitVec 32 := 0#32
  ![0, v62.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v65 : BitVec 32 := Scalar.muli v2 c4_i32_49
  let v66 : BitVec 32 := Scalar.addi c0_i32_50 v65
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v67 : BitVec 32 := Scalar.muli v9 c2_i32_51
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v69 : BitVec 32 := Scalar.muli v8 c1_i32_52
  let v70 : BitVec 32 := Scalar.addi v68 v69
  v70.toNat
def k0_dev5 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v81 : BitVec 32 := Scalar.muli v2 c4_i32_60
  let v82 : BitVec 32 := Scalar.addi c0_i32_61 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_62 : BitVec 32 := 2#32
  let v83 : BitVec 32 := Scalar.muli v9 c2_i32_62
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v85 : BitVec 32 := Scalar.muli v8 c1_i32_63
  let v86 : BitVec 32 := Scalar.addi v84 v85
  v86.toNat
def k0_dev6 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v97 : BitVec 32 := Scalar.muli v2 c4_i32_71
  let v98 : BitVec 32 := Scalar.addi c0_i32_72 v97
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_73 : BitVec 32 := 2#32
  let v99 : BitVec 32 := Scalar.muli v9 c2_i32_73
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v101 : BitVec 32 := Scalar.muli v8 c1_i32_74
  let v102 : BitVec 32 := Scalar.addi v100 v101
  v102.toNat
def k0_dev7 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v113 : BitVec 32 := Scalar.muli v2 c4_i32_82
  let v114 : BitVec 32 := Scalar.addi c0_i32_83 v113
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_84 : BitVec 32 := 2#32
  let v115 : BitVec 32 := Scalar.muli v9 c2_i32_84
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v117 : BitVec 32 := Scalar.muli v8 c1_i32_85
  let v118 : BitVec 32 := Scalar.addi v116 v117
  v118.toNat
def k0_dev8 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v129 : BitVec 32 := Scalar.muli v2 c4_i32_93
  let v130 : BitVec 32 := Scalar.addi c0_i32_94 v129
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_95 : BitVec 32 := 2#32
  let v131 : BitVec 32 := Scalar.muli v9 c2_i32_95
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v133 : BitVec 32 := Scalar.muli v8 c1_i32_96
  let v134 : BitVec 32 := Scalar.addi v132 v133
  v134.toNat
def k0_dev9 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v145 : BitVec 32 := Scalar.muli v2 c4_i32_103
  let v146 : BitVec 32 := Scalar.addi c0_i32_104 v145
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_105 : BitVec 32 := 2#32
  let v147 : BitVec 32 := Scalar.muli v9 c2_i32_105
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v149 : BitVec 32 := Scalar.muli v8 c1_i32_106
  let v150 : BitVec 32 := Scalar.addi v148 v149
  v150.toNat
def k0_dev10 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v161 : BitVec 32 := Scalar.muli v2 c4_i32_113
  let v162 : BitVec 32 := Scalar.addi c0_i32_114 v161
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_115 : BitVec 32 := 2#32
  let v163 : BitVec 32 := Scalar.muli v9 c2_i32_115
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v165 : BitVec 32 := Scalar.muli v8 c1_i32_116
  let v166 : BitVec 32 := Scalar.addi v164 v165
  v166.toNat
def k0_dev11 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v177 : BitVec 32 := Scalar.muli v2 c4_i32_123
  let v178 : BitVec 32 := Scalar.addi c0_i32_124 v177
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_125 : BitVec 32 := 2#32
  let v179 : BitVec 32 := Scalar.muli v9 c2_i32_125
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v181 : BitVec 32 := Scalar.muli v8 c1_i32_126
  let v182 : BitVec 32 := Scalar.addi v180 v181
  v182.toNat
def k0_dev12 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_134 : BitVec 32 := 4#32
  let v193 : BitVec 32 := Scalar.muli v2 c4_i32_134
  let v194 : BitVec 32 := Scalar.addi c0_i32_135 v193
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_136 : BitVec 32 := 2#32
  let v195 : BitVec 32 := Scalar.muli v9 c2_i32_136
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v197 : BitVec 32 := Scalar.muli v8 c1_i32_137
  let v198 : BitVec 32 := Scalar.addi v196 v197
  v198.toNat
def k0_dev13 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v209 : BitVec 32 := Scalar.muli v2 c4_i32_144
  let v210 : BitVec 32 := Scalar.addi c0_i32_145 v209
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_146 : BitVec 32 := 2#32
  let v211 : BitVec 32 := Scalar.muli v9 c2_i32_146
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v213 : BitVec 32 := Scalar.muli v8 c1_i32_147
  let v214 : BitVec 32 := Scalar.addi v212 v213
  v214.toNat
def k0_dev14 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v225 : BitVec 32 := Scalar.muli v2 c4_i32_154
  let v226 : BitVec 32 := Scalar.addi c0_i32_155 v225
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_156 : BitVec 32 := 2#32
  let v227 : BitVec 32 := Scalar.muli v9 c2_i32_156
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v229 : BitVec 32 := Scalar.muli v8 c1_i32_157
  let v230 : BitVec 32 := Scalar.addi v228 v229
  v230.toNat
def k0_dev15 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v241 : BitVec 32 := Scalar.muli v2 c4_i32_164
  let v242 : BitVec 32 := Scalar.addi c0_i32_165 v241
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_166 : BitVec 32 := 2#32
  let v243 : BitVec 32 := Scalar.muli v9 c2_i32_166
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v245 : BitVec 32 := Scalar.muli v8 c1_i32_167
  let v246 : BitVec 32 := Scalar.addi v244 v245
  v246.toNat
def k0_dev16 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v257 : BitVec 32 := Scalar.muli v2 c4_i32_174
  let v258 : BitVec 32 := Scalar.addi c0_i32_175 v257
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_176 : BitVec 32 := 2#32
  let v259 : BitVec 32 := Scalar.muli v9 c2_i32_176
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v261 : BitVec 32 := Scalar.muli v8 c1_i32_177
  let v262 : BitVec 32 := Scalar.addi v260 v261
  v262.toNat
def k0_dev17 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v273 : BitVec 32 := Scalar.muli v2 c4_i32_184
  let v274 : BitVec 32 := Scalar.addi c0_i32_185 v273
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_186 : BitVec 32 := 2#32
  let v275 : BitVec 32 := Scalar.muli v9 c2_i32_186
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v277 : BitVec 32 := Scalar.muli v8 c1_i32_187
  let v278 : BitVec 32 := Scalar.addi v276 v277
  v278.toNat
def k0_dev18 (d0 : Dev nD) : Nat :=
  let c0_i32_195 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_194 : BitVec 32 := 4#32
  let v289 : BitVec 32 := Scalar.muli v2 c4_i32_194
  let v290 : BitVec 32 := Scalar.addi c0_i32_195 v289
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_196 : BitVec 32 := 2#32
  let v291 : BitVec 32 := Scalar.muli v9 c2_i32_196
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v293 : BitVec 32 := Scalar.muli v8 c1_i32_197
  let v294 : BitVec 32 := Scalar.addi v292 v293
  v294.toNat
def k0_dev19 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v305 : BitVec 32 := Scalar.muli v2 c4_i32_204
  let v306 : BitVec 32 := Scalar.addi c0_i32_205 v305
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_206 : BitVec 32 := 2#32
  let v307 : BitVec 32 := Scalar.muli v9 c2_i32_206
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v309 : BitVec 32 := Scalar.muli v8 c1_i32_207
  let v310 : BitVec 32 := Scalar.addi v308 v309
  v310.toNat
def k0_dev20 (d0 : Dev nD) : Nat :=
  let c0_i32_225 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_224 : BitVec 32 := 4#32
  let v334 : BitVec 32 := Scalar.muli v10 c4_i32_224
  let v335 : BitVec 32 := Scalar.addi c0_i32_225 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v336 : BitVec 32 := Scalar.muli v5 c2_i32_226
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v338 : BitVec 32 := Scalar.muli v8 c1_i32_227
  let v339 : BitVec 32 := Scalar.addi v337 v338
  v339.toNat
def k0_dev21 (d0 : Dev nD) : Nat :=
  let c0_i32_234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_233 : BitVec 32 := 4#32
  let v347 : BitVec 32 := Scalar.muli v2 c4_i32_233
  let v348 : BitVec 32 := Scalar.addi c0_i32_234 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v349 : BitVec 32 := Scalar.muli v5 c2_i32_235
  let v350 : BitVec 32 := Scalar.addi v348 v349
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_236 : BitVec 32 := 1#32
  let v351 : BitVec 32 := Scalar.muli v11 c1_i32_236
  let v352 : BitVec 32 := Scalar.addi v350 v351
  v352.toNat
def k0_off4 (d0 : Dev nD) (c0_i32_239 : BitVec 32) : Fin 2 → Nat :=
  let c512_i32 : BitVec 32 := 512#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v24 : BitVec 32 := Scalar.muli c512_i32 v13
  let v359 : BitVec 32 := Scalar.addi v24 c0_i32_239
  let v360 : Index := Scalar.indexCast v359
  let c0_240 : Index := 0#32
  ![v360.toNat, 0]
def k0_dev22 (d0 : Dev nD) : Nat :=
  let c0_i32_261 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_260 : BitVec 32 := 4#32
  let v398 : BitVec 32 := Scalar.muli v10 c4_i32_260
  let v399 : BitVec 32 := Scalar.addi c0_i32_261 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_262 : BitVec 32 := 2#32
  let v400 : BitVec 32 := Scalar.muli v5 c2_i32_262
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_263 : BitVec 32 := 1#32
  let v402 : BitVec 32 := Scalar.muli v8 c1_i32_263
  let v403 : BitVec 32 := Scalar.addi v401 v402
  v403.toNat
def k0_dev23 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v411 : BitVec 32 := Scalar.muli v2 c4_i32_269
  let v412 : BitVec 32 := Scalar.addi c0_i32_270 v411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v413 : BitVec 32 := Scalar.muli v5 c2_i32_271
  let v414 : BitVec 32 := Scalar.addi v412 v413
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_272 : BitVec 32 := 1#32
  let v415 : BitVec 32 := Scalar.muli v11 c1_i32_272
  let v416 : BitVec 32 := Scalar.addi v414 v415
  v416.toNat
def k0_dev24 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v462 : BitVec 32 := Scalar.muli v10 c4_i32_297
  let v463 : BitVec 32 := Scalar.addi c0_i32_298 v462
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v464 : BitVec 32 := Scalar.muli v5 c2_i32_299
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v466 : BitVec 32 := Scalar.muli v8 c1_i32_300
  let v467 : BitVec 32 := Scalar.addi v465 v466
  v467.toNat
def k0_dev25 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v475 : BitVec 32 := Scalar.muli v2 c4_i32_306
  let v476 : BitVec 32 := Scalar.addi c0_i32_307 v475
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_308 : BitVec 32 := 2#32
  let v477 : BitVec 32 := Scalar.muli v5 c2_i32_308
  let v478 : BitVec 32 := Scalar.addi v476 v477
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_309 : BitVec 32 := 1#32
  let v479 : BitVec 32 := Scalar.muli v11 c1_i32_309
  let v480 : BitVec 32 := Scalar.addi v478 v479
  v480.toNat
def k0_dev26 (d0 : Dev nD) : Nat :=
  let c0_i32_335 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_334 : BitVec 32 := 4#32
  let v526 : BitVec 32 := Scalar.muli v10 c4_i32_334
  let v527 : BitVec 32 := Scalar.addi c0_i32_335 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v528 : BitVec 32 := Scalar.muli v5 c2_i32_336
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v530 : BitVec 32 := Scalar.muli v8 c1_i32_337
  let v531 : BitVec 32 := Scalar.addi v529 v530
  v531.toNat
def k0_dev27 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v539 : BitVec 32 := Scalar.muli v2 c4_i32_343
  let v540 : BitVec 32 := Scalar.addi c0_i32_344 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v541 : BitVec 32 := Scalar.muli v5 c2_i32_345
  let v542 : BitVec 32 := Scalar.addi v540 v541
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_346 : BitVec 32 := 1#32
  let v543 : BitVec 32 := Scalar.muli v11 c1_i32_346
  let v544 : BitVec 32 := Scalar.addi v542 v543
  v544.toNat
def k0_dev28 (d0 : Dev nD) : Nat :=
  let c0_i32_372 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_371 : BitVec 32 := 4#32
  let v590 : BitVec 32 := Scalar.muli v10 c4_i32_371
  let v591 : BitVec 32 := Scalar.addi c0_i32_372 v590
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v592 : BitVec 32 := Scalar.muli v5 c2_i32_373
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_374 : BitVec 32 := 1#32
  let v594 : BitVec 32 := Scalar.muli v8 c1_i32_374
  let v595 : BitVec 32 := Scalar.addi v593 v594
  v595.toNat
def k0_dev29 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_380 : BitVec 32 := 4#32
  let v603 : BitVec 32 := Scalar.muli v2 c4_i32_380
  let v604 : BitVec 32 := Scalar.addi c0_i32_381 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_382 : BitVec 32 := 2#32
  let v605 : BitVec 32 := Scalar.muli v5 c2_i32_382
  let v606 : BitVec 32 := Scalar.addi v604 v605
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_383 : BitVec 32 := 1#32
  let v607 : BitVec 32 := Scalar.muli v11 c1_i32_383
  let v608 : BitVec 32 := Scalar.addi v606 v607
  v608.toNat
def k0_dev30 (d0 : Dev nD) : Nat :=
  let c0_i32_409 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_408 : BitVec 32 := 4#32
  let v654 : BitVec 32 := Scalar.muli v10 c4_i32_408
  let v655 : BitVec 32 := Scalar.addi c0_i32_409 v654
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v656 : BitVec 32 := Scalar.muli v5 c2_i32_410
  let v657 : BitVec 32 := Scalar.addi v655 v656
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v658 : BitVec 32 := Scalar.muli v8 c1_i32_411
  let v659 : BitVec 32 := Scalar.addi v657 v658
  v659.toNat
def k0_dev31 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v667 : BitVec 32 := Scalar.muli v2 c4_i32_417
  let v668 : BitVec 32 := Scalar.addi c0_i32_418 v667
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v669 : BitVec 32 := Scalar.muli v5 c2_i32_419
  let v670 : BitVec 32 := Scalar.addi v668 v669
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_420 : BitVec 32 := 1#32
  let v671 : BitVec 32 := Scalar.muli v11 c1_i32_420
  let v672 : BitVec 32 := Scalar.addi v670 v671
  v672.toNat
def k0_dev32 (d0 : Dev nD) : Nat :=
  let c0_i32_446 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_445 : BitVec 32 := 4#32
  let v718 : BitVec 32 := Scalar.muli v10 c4_i32_445
  let v719 : BitVec 32 := Scalar.addi c0_i32_446 v718
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_447 : BitVec 32 := 2#32
  let v720 : BitVec 32 := Scalar.muli v5 c2_i32_447
  let v721 : BitVec 32 := Scalar.addi v719 v720
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_448 : BitVec 32 := 1#32
  let v722 : BitVec 32 := Scalar.muli v8 c1_i32_448
  let v723 : BitVec 32 := Scalar.addi v721 v722
  v723.toNat
def k0_dev33 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v731 : BitVec 32 := Scalar.muli v2 c4_i32_454
  let v732 : BitVec 32 := Scalar.addi c0_i32_455 v731
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v733 : BitVec 32 := Scalar.muli v5 c2_i32_456
  let v734 : BitVec 32 := Scalar.addi v732 v733
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_457 : BitVec 32 := 1#32
  let v735 : BitVec 32 := Scalar.muli v11 c1_i32_457
  let v736 : BitVec 32 := Scalar.addi v734 v735
  v736.toNat
def k0_dev34 (d0 : Dev nD) : Nat :=
  let c0_i32_483 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_482 : BitVec 32 := 4#32
  let v782 : BitVec 32 := Scalar.muli v10 c4_i32_482
  let v783 : BitVec 32 := Scalar.addi c0_i32_483 v782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_484 : BitVec 32 := 2#32
  let v784 : BitVec 32 := Scalar.muli v5 c2_i32_484
  let v785 : BitVec 32 := Scalar.addi v783 v784
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_485 : BitVec 32 := 1#32
  let v786 : BitVec 32 := Scalar.muli v8 c1_i32_485
  let v787 : BitVec 32 := Scalar.addi v785 v786
  v787.toNat
def k0_dev35 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_491 : BitVec 32 := 4#32
  let v795 : BitVec 32 := Scalar.muli v2 c4_i32_491
  let v796 : BitVec 32 := Scalar.addi c0_i32_492 v795
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_493 : BitVec 32 := 2#32
  let v797 : BitVec 32 := Scalar.muli v5 c2_i32_493
  let v798 : BitVec 32 := Scalar.addi v796 v797
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_494 : BitVec 32 := 1#32
  let v799 : BitVec 32 := Scalar.muli v11 c1_i32_494
  let v800 : BitVec 32 := Scalar.addi v798 v799
  v800.toNat
def k0_off5 (d0 : Dev nD) (c0_i32_507 : BitVec 32) : Fin 2 → Nat :=
  let c512_i32_15 : BitVec 32 := 512#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v27 : BitVec 32 := Scalar.muli c512_i32_15 v16
  let v834 : BitVec 32 := Scalar.addi v27 c0_i32_507
  let c0_i32_514 : BitVec 32 := 0#32
  ![v834.toNat, 0]
def k0_dev36 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v846 : BitVec 32 := Scalar.muli v2 c4_i32_519
  let v847 : BitVec 32 := Scalar.addi c0_i32_520 v846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v848 : BitVec 32 := Scalar.muli v5 c2_i32_521
  let v849 : BitVec 32 := Scalar.addi v847 v848
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_522 : BitVec 32 := 1#32
  let v850 : BitVec 32 := Scalar.muli v11 c1_i32_522
  let v851 : BitVec 32 := Scalar.addi v849 v850
  v851.toNat
def k0_off6 (d0 : Dev nD) (c0_i32_525 : BitVec 32) : Fin 2 → Nat :=
  let c512_i32_15 : BitVec 32 := 512#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v27 : BitVec 32 := Scalar.muli c512_i32_15 v16
  let v858 : BitVec 32 := Scalar.addi v27 c0_i32_525
  let v859 : Index := Scalar.indexCast v858
  let c0_526 : Index := 0#32
  ![v859.toNat, 0]
def k0_off7 (d0 : Dev nD) (c0_i32_544 : BitVec 32) : Fin 2 → Nat :=
  let c512_i32_14 : BitVec 32 := 512#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v25 : BitVec 32 := Scalar.muli c512_i32_14 v13
  let c256_i32 : BitVec 32 := 256#32
  let v26 : BitVec 32 := Scalar.addi v25 c256_i32
  let v896 : BitVec 32 := Scalar.addi v26 c0_i32_544
  let c0_i32_551 : BitVec 32 := 0#32
  ![v896.toNat, 0]
def k0_dev37 (d0 : Dev nD) : Nat :=
  let c0_i32_548 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_547 : BitVec 32 := 4#32
  let v897 : BitVec 32 := Scalar.muli v2 c4_i32_547
  let v898 : BitVec 32 := Scalar.addi c0_i32_548 v897
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_549 : BitVec 32 := 2#32
  let v899 : BitVec 32 := Scalar.muli v5 c2_i32_549
  let v900 : BitVec 32 := Scalar.addi v898 v899
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_550 : BitVec 32 := 1#32
  let v901 : BitVec 32 := Scalar.muli v11 c1_i32_550
  let v902 : BitVec 32 := Scalar.addi v900 v901
  v902.toNat
def k0_dev38 (d0 : Dev nD) : Nat :=
  let c0_i32_557 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_556 : BitVec 32 := 4#32
  let v910 : BitVec 32 := Scalar.muli v10 c4_i32_556
  let v911 : BitVec 32 := Scalar.addi c0_i32_557 v910
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_558 : BitVec 32 := 2#32
  let v912 : BitVec 32 := Scalar.muli v5 c2_i32_558
  let v913 : BitVec 32 := Scalar.addi v911 v912
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_559 : BitVec 32 := 1#32
  let v914 : BitVec 32 := Scalar.muli v8 c1_i32_559
  let v915 : BitVec 32 := Scalar.addi v913 v914
  v915.toNat
def k0_off8 (d0 : Dev nD) (c0_i32_562 : BitVec 32) : Fin 2 → Nat :=
  let c512_i32_14 : BitVec 32 := 512#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v25 : BitVec 32 := Scalar.muli c512_i32_14 v13
  let c256_i32 : BitVec 32 := 256#32
  let v26 : BitVec 32 := Scalar.addi v25 c256_i32
  let v922 : BitVec 32 := Scalar.addi v26 c0_i32_562
  let v923 : Index := Scalar.indexCast v922
  let c0_563 : Index := 0#32
  ![v923.toNat, 0]
def k0_dev39 (d0 : Dev nD) : Nat :=
  let c0_i32_585 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_584 : BitVec 32 := 4#32
  let v961 : BitVec 32 := Scalar.muli v2 c4_i32_584
  let v962 : BitVec 32 := Scalar.addi c0_i32_585 v961
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_586 : BitVec 32 := 2#32
  let v963 : BitVec 32 := Scalar.muli v5 c2_i32_586
  let v964 : BitVec 32 := Scalar.addi v962 v963
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_587 : BitVec 32 := 1#32
  let v965 : BitVec 32 := Scalar.muli v11 c1_i32_587
  let v966 : BitVec 32 := Scalar.addi v964 v965
  v966.toNat
def k0_dev40 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v1012 : BitVec 32 := Scalar.muli v2 c4_i32_612
  let v1013 : BitVec 32 := Scalar.addi c0_i32_613 v1012
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_614 : BitVec 32 := 2#32
  let v1014 : BitVec 32 := Scalar.muli v5 c2_i32_614
  let v1015 : BitVec 32 := Scalar.addi v1013 v1014
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_615 : BitVec 32 := 1#32
  let v1016 : BitVec 32 := Scalar.muli v11 c1_i32_615
  let v1017 : BitVec 32 := Scalar.addi v1015 v1016
  v1017.toNat
def k0_dev41 (d0 : Dev nD) : Nat :=
  let c0_i32_622 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_621 : BitVec 32 := 4#32
  let v1025 : BitVec 32 := Scalar.muli v10 c4_i32_621
  let v1026 : BitVec 32 := Scalar.addi c0_i32_622 v1025
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_623 : BitVec 32 := 2#32
  let v1027 : BitVec 32 := Scalar.muli v5 c2_i32_623
  let v1028 : BitVec 32 := Scalar.addi v1026 v1027
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v1029 : BitVec 32 := Scalar.muli v8 c1_i32_624
  let v1030 : BitVec 32 := Scalar.addi v1028 v1029
  v1030.toNat
def k0_dev42 (d0 : Dev nD) : Nat :=
  let c0_i32_650 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_649 : BitVec 32 := 4#32
  let v1076 : BitVec 32 := Scalar.muli v2 c4_i32_649
  let v1077 : BitVec 32 := Scalar.addi c0_i32_650 v1076
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v1078 : BitVec 32 := Scalar.muli v5 c2_i32_651
  let v1079 : BitVec 32 := Scalar.addi v1077 v1078
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_652 : BitVec 32 := 1#32
  let v1080 : BitVec 32 := Scalar.muli v11 c1_i32_652
  let v1081 : BitVec 32 := Scalar.addi v1079 v1080
  v1081.toNat
def k0_dev43 (d0 : Dev nD) : Nat :=
  let c0_i32_678 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_677 : BitVec 32 := 4#32
  let v1127 : BitVec 32 := Scalar.muli v2 c4_i32_677
  let v1128 : BitVec 32 := Scalar.addi c0_i32_678 v1127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_679 : BitVec 32 := 2#32
  let v1129 : BitVec 32 := Scalar.muli v5 c2_i32_679
  let v1130 : BitVec 32 := Scalar.addi v1128 v1129
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_680 : BitVec 32 := 1#32
  let v1131 : BitVec 32 := Scalar.muli v11 c1_i32_680
  let v1132 : BitVec 32 := Scalar.addi v1130 v1131
  v1132.toNat
def k0_dev44 (d0 : Dev nD) : Nat :=
  let c0_i32_687 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_686 : BitVec 32 := 4#32
  let v1140 : BitVec 32 := Scalar.muli v10 c4_i32_686
  let v1141 : BitVec 32 := Scalar.addi c0_i32_687 v1140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_688 : BitVec 32 := 2#32
  let v1142 : BitVec 32 := Scalar.muli v5 c2_i32_688
  let v1143 : BitVec 32 := Scalar.addi v1141 v1142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_689 : BitVec 32 := 1#32
  let v1144 : BitVec 32 := Scalar.muli v8 c1_i32_689
  let v1145 : BitVec 32 := Scalar.addi v1143 v1144
  v1145.toNat
def k0_dev45 (d0 : Dev nD) : Nat :=
  let c0_i32_715 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_714 : BitVec 32 := 4#32
  let v1191 : BitVec 32 := Scalar.muli v2 c4_i32_714
  let v1192 : BitVec 32 := Scalar.addi c0_i32_715 v1191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_716 : BitVec 32 := 2#32
  let v1193 : BitVec 32 := Scalar.muli v5 c2_i32_716
  let v1194 : BitVec 32 := Scalar.addi v1192 v1193
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_717 : BitVec 32 := 1#32
  let v1195 : BitVec 32 := Scalar.muli v11 c1_i32_717
  let v1196 : BitVec 32 := Scalar.addi v1194 v1195
  v1196.toNat
def k0_dev46 (d0 : Dev nD) : Nat :=
  let c0_i32_743 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_742 : BitVec 32 := 4#32
  let v1242 : BitVec 32 := Scalar.muli v2 c4_i32_742
  let v1243 : BitVec 32 := Scalar.addi c0_i32_743 v1242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_744 : BitVec 32 := 2#32
  let v1244 : BitVec 32 := Scalar.muli v5 c2_i32_744
  let v1245 : BitVec 32 := Scalar.addi v1243 v1244
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_745 : BitVec 32 := 1#32
  let v1246 : BitVec 32 := Scalar.muli v11 c1_i32_745
  let v1247 : BitVec 32 := Scalar.addi v1245 v1246
  v1247.toNat
def k0_dev47 (d0 : Dev nD) : Nat :=
  let c0_i32_752 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_751 : BitVec 32 := 4#32
  let v1255 : BitVec 32 := Scalar.muli v10 c4_i32_751
  let v1256 : BitVec 32 := Scalar.addi c0_i32_752 v1255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_753 : BitVec 32 := 2#32
  let v1257 : BitVec 32 := Scalar.muli v5 c2_i32_753
  let v1258 : BitVec 32 := Scalar.addi v1256 v1257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_754 : BitVec 32 := 1#32
  let v1259 : BitVec 32 := Scalar.muli v8 c1_i32_754
  let v1260 : BitVec 32 := Scalar.addi v1258 v1259
  v1260.toNat
def k0_dev48 (d0 : Dev nD) : Nat :=
  let c0_i32_780 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_779 : BitVec 32 := 4#32
  let v1306 : BitVec 32 := Scalar.muli v2 c4_i32_779
  let v1307 : BitVec 32 := Scalar.addi c0_i32_780 v1306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_781 : BitVec 32 := 2#32
  let v1308 : BitVec 32 := Scalar.muli v5 c2_i32_781
  let v1309 : BitVec 32 := Scalar.addi v1307 v1308
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_782 : BitVec 32 := 1#32
  let v1310 : BitVec 32 := Scalar.muli v11 c1_i32_782
  let v1311 : BitVec 32 := Scalar.addi v1309 v1310
  v1311.toNat
def k0_dev49 (d0 : Dev nD) : Nat :=
  let c0_i32_807 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_806 : BitVec 32 := 4#32
  let v1357 : BitVec 32 := Scalar.muli v2 c4_i32_806
  let v1358 : BitVec 32 := Scalar.addi c0_i32_807 v1357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_808 : BitVec 32 := 2#32
  let v1359 : BitVec 32 := Scalar.muli v5 c2_i32_808
  let v1360 : BitVec 32 := Scalar.addi v1358 v1359
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_809 : BitVec 32 := 1#32
  let v1361 : BitVec 32 := Scalar.muli v11 c1_i32_809
  let v1362 : BitVec 32 := Scalar.addi v1360 v1361
  v1362.toNat
def k0_dev50 (d0 : Dev nD) : Nat :=
  let c0_i32_816 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_815 : BitVec 32 := 4#32
  let v1370 : BitVec 32 := Scalar.muli v10 c4_i32_815
  let v1371 : BitVec 32 := Scalar.addi c0_i32_816 v1370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_817 : BitVec 32 := 2#32
  let v1372 : BitVec 32 := Scalar.muli v5 c2_i32_817
  let v1373 : BitVec 32 := Scalar.addi v1371 v1372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_818 : BitVec 32 := 1#32
  let v1374 : BitVec 32 := Scalar.muli v8 c1_i32_818
  let v1375 : BitVec 32 := Scalar.addi v1373 v1374
  v1375.toNat
def k0_dev51 (d0 : Dev nD) : Nat :=
  let c0_i32_843 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_842 : BitVec 32 := 4#32
  let v1421 : BitVec 32 := Scalar.muli v2 c4_i32_842
  let v1422 : BitVec 32 := Scalar.addi c0_i32_843 v1421
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_844 : BitVec 32 := 2#32
  let v1423 : BitVec 32 := Scalar.muli v5 c2_i32_844
  let v1424 : BitVec 32 := Scalar.addi v1422 v1423
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_845 : BitVec 32 := 1#32
  let v1425 : BitVec 32 := Scalar.muli v11 c1_i32_845
  let v1426 : BitVec 32 := Scalar.addi v1424 v1425
  v1426.toNat
def k0_dev52 (d0 : Dev nD) : Nat :=
  let c0_i32_870 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_869 : BitVec 32 := 4#32
  let v1472 : BitVec 32 := Scalar.muli v2 c4_i32_869
  let v1473 : BitVec 32 := Scalar.addi c0_i32_870 v1472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_871 : BitVec 32 := 2#32
  let v1474 : BitVec 32 := Scalar.muli v5 c2_i32_871
  let v1475 : BitVec 32 := Scalar.addi v1473 v1474
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_872 : BitVec 32 := 1#32
  let v1476 : BitVec 32 := Scalar.muli v11 c1_i32_872
  let v1477 : BitVec 32 := Scalar.addi v1475 v1476
  v1477.toNat
def k0_dev53 (d0 : Dev nD) : Nat :=
  let c0_i32_879 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_878 : BitVec 32 := 4#32
  let v1485 : BitVec 32 := Scalar.muli v10 c4_i32_878
  let v1486 : BitVec 32 := Scalar.addi c0_i32_879 v1485
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_880 : BitVec 32 := 2#32
  let v1487 : BitVec 32 := Scalar.muli v5 c2_i32_880
  let v1488 : BitVec 32 := Scalar.addi v1486 v1487
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_881 : BitVec 32 := 1#32
  let v1489 : BitVec 32 := Scalar.muli v8 c1_i32_881
  let v1490 : BitVec 32 := Scalar.addi v1488 v1489
  v1490.toNat
def k0_dev54 (d0 : Dev nD) : Nat :=
  let c0_i32_906 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_905 : BitVec 32 := 4#32
  let v1536 : BitVec 32 := Scalar.muli v2 c4_i32_905
  let v1537 : BitVec 32 := Scalar.addi c0_i32_906 v1536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_907 : BitVec 32 := 2#32
  let v1538 : BitVec 32 := Scalar.muli v5 c2_i32_907
  let v1539 : BitVec 32 := Scalar.addi v1537 v1538
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_908 : BitVec 32 := 1#32
  let v1540 : BitVec 32 := Scalar.muli v11 c1_i32_908
  let v1541 : BitVec 32 := Scalar.addi v1539 v1540
  v1541.toNat
def k0_dev55 (d0 : Dev nD) : Nat :=
  let c0_i32_933 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_932 : BitVec 32 := 4#32
  let v1587 : BitVec 32 := Scalar.muli v2 c4_i32_932
  let v1588 : BitVec 32 := Scalar.addi c0_i32_933 v1587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_934 : BitVec 32 := 2#32
  let v1589 : BitVec 32 := Scalar.muli v5 c2_i32_934
  let v1590 : BitVec 32 := Scalar.addi v1588 v1589
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_935 : BitVec 32 := 1#32
  let v1591 : BitVec 32 := Scalar.muli v11 c1_i32_935
  let v1592 : BitVec 32 := Scalar.addi v1590 v1591
  v1592.toNat
def k0_dev56 (d0 : Dev nD) : Nat :=
  let c0_i32_942 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_941 : BitVec 32 := 4#32
  let v1600 : BitVec 32 := Scalar.muli v10 c4_i32_941
  let v1601 : BitVec 32 := Scalar.addi c0_i32_942 v1600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_943 : BitVec 32 := 2#32
  let v1602 : BitVec 32 := Scalar.muli v5 c2_i32_943
  let v1603 : BitVec 32 := Scalar.addi v1601 v1602
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_944 : BitVec 32 := 1#32
  let v1604 : BitVec 32 := Scalar.muli v8 c1_i32_944
  let v1605 : BitVec 32 := Scalar.addi v1603 v1604
  v1605.toNat
def k0_dev57 (d0 : Dev nD) : Nat :=
  let c0_i32_969 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_968 : BitVec 32 := 4#32
  let v1651 : BitVec 32 := Scalar.muli v2 c4_i32_968
  let v1652 : BitVec 32 := Scalar.addi c0_i32_969 v1651
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_970 : BitVec 32 := 2#32
  let v1653 : BitVec 32 := Scalar.muli v5 c2_i32_970
  let v1654 : BitVec 32 := Scalar.addi v1652 v1653
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_971 : BitVec 32 := 1#32
  let v1655 : BitVec 32 := Scalar.muli v11 c1_i32_971
  let v1656 : BitVec 32 := Scalar.addi v1654 v1655
  v1656.toNat
def k0_dev58 (d0 : Dev nD) : Nat :=
  let c0_i32_996 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_995 : BitVec 32 := 4#32
  let v1702 : BitVec 32 := Scalar.muli v2 c4_i32_995
  let v1703 : BitVec 32 := Scalar.addi c0_i32_996 v1702
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_997 : BitVec 32 := 2#32
  let v1704 : BitVec 32 := Scalar.muli v5 c2_i32_997
  let v1705 : BitVec 32 := Scalar.addi v1703 v1704
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_998 : BitVec 32 := 1#32
  let v1706 : BitVec 32 := Scalar.muli v11 c1_i32_998
  let v1707 : BitVec 32 := Scalar.addi v1705 v1706
  v1707.toNat
def k0_dev59 (d0 : Dev nD) : Nat :=
  let c0_i32_1005 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1004 : BitVec 32 := 4#32
  let v1715 : BitVec 32 := Scalar.muli v10 c4_i32_1004
  let v1716 : BitVec 32 := Scalar.addi c0_i32_1005 v1715
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1006 : BitVec 32 := 2#32
  let v1717 : BitVec 32 := Scalar.muli v5 c2_i32_1006
  let v1718 : BitVec 32 := Scalar.addi v1716 v1717
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1007 : BitVec 32 := 1#32
  let v1719 : BitVec 32 := Scalar.muli v8 c1_i32_1007
  let v1720 : BitVec 32 := Scalar.addi v1718 v1719
  v1720.toNat
def k0_off9 (d0 : Dev nD) (c0_i32_1019 : BitVec 32) : Fin 2 → Nat :=
  let c512_i32_19 : BitVec 32 := 512#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v31 : BitVec 32 := Scalar.muli c512_i32_19 v19
  let c256_i32_20 : BitVec 32 := 256#32
  let v32 : BitVec 32 := Scalar.addi v31 c256_i32_20
  let v1754 : BitVec 32 := Scalar.addi v32 c0_i32_1019
  let c0_i32_1026 : BitVec 32 := 0#32
  ![v1754.toNat, 0]
def k0_dev60 (d0 : Dev nD) : Nat :=
  let c0_i32_1032 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1031 : BitVec 32 := 4#32
  let v1766 : BitVec 32 := Scalar.muli v10 c4_i32_1031
  let v1767 : BitVec 32 := Scalar.addi c0_i32_1032 v1766
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1033 : BitVec 32 := 2#32
  let v1768 : BitVec 32 := Scalar.muli v5 c2_i32_1033
  let v1769 : BitVec 32 := Scalar.addi v1767 v1768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1034 : BitVec 32 := 1#32
  let v1770 : BitVec 32 := Scalar.muli v8 c1_i32_1034
  let v1771 : BitVec 32 := Scalar.addi v1769 v1770
  v1771.toNat
def k0_off10 (d0 : Dev nD) (c0_i32_1037 : BitVec 32) : Fin 2 → Nat :=
  let c512_i32_19 : BitVec 32 := 512#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v31 : BitVec 32 := Scalar.muli c512_i32_19 v19
  let c256_i32_20 : BitVec 32 := 256#32
  let v32 : BitVec 32 := Scalar.addi v31 c256_i32_20
  let v1778 : BitVec 32 := Scalar.addi v32 c0_i32_1037
  let v1779 : Index := Scalar.indexCast v1778
  let c0_1038 : Index := 0#32
  ![v1779.toNat, 0]
def k0_dev61 (d0 : Dev nD) : Nat :=
  let c0_i32_1059 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1058 : BitVec 32 := 4#32
  let v1817 : BitVec 32 := Scalar.muli v10 c4_i32_1058
  let v1818 : BitVec 32 := Scalar.addi c0_i32_1059 v1817
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1060 : BitVec 32 := 2#32
  let v1819 : BitVec 32 := Scalar.muli v5 c2_i32_1060
  let v1820 : BitVec 32 := Scalar.addi v1818 v1819
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1061 : BitVec 32 := 1#32
  let v1821 : BitVec 32 := Scalar.muli v8 c1_i32_1061
  let v1822 : BitVec 32 := Scalar.addi v1820 v1821
  v1822.toNat
def k0_dev62 (d0 : Dev nD) : Nat :=
  let c0_i32_1086 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1085 : BitVec 32 := 4#32
  let v1868 : BitVec 32 := Scalar.muli v10 c4_i32_1085
  let v1869 : BitVec 32 := Scalar.addi c0_i32_1086 v1868
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1087 : BitVec 32 := 2#32
  let v1870 : BitVec 32 := Scalar.muli v5 c2_i32_1087
  let v1871 : BitVec 32 := Scalar.addi v1869 v1870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1088 : BitVec 32 := 1#32
  let v1872 : BitVec 32 := Scalar.muli v8 c1_i32_1088
  let v1873 : BitVec 32 := Scalar.addi v1871 v1872
  v1873.toNat
def k0_dev63 (d0 : Dev nD) : Nat :=
  let c0_i32_1113 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1112 : BitVec 32 := 4#32
  let v1919 : BitVec 32 := Scalar.muli v10 c4_i32_1112
  let v1920 : BitVec 32 := Scalar.addi c0_i32_1113 v1919
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1114 : BitVec 32 := 2#32
  let v1921 : BitVec 32 := Scalar.muli v5 c2_i32_1114
  let v1922 : BitVec 32 := Scalar.addi v1920 v1921
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1115 : BitVec 32 := 1#32
  let v1923 : BitVec 32 := Scalar.muli v8 c1_i32_1115
  let v1924 : BitVec 32 := Scalar.addi v1922 v1923
  v1924.toNat
def k0_dev64 (d0 : Dev nD) : Nat :=
  let c0_i32_1140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1139 : BitVec 32 := 4#32
  let v1970 : BitVec 32 := Scalar.muli v10 c4_i32_1139
  let v1971 : BitVec 32 := Scalar.addi c0_i32_1140 v1970
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1141 : BitVec 32 := 2#32
  let v1972 : BitVec 32 := Scalar.muli v5 c2_i32_1141
  let v1973 : BitVec 32 := Scalar.addi v1971 v1972
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1142 : BitVec 32 := 1#32
  let v1974 : BitVec 32 := Scalar.muli v8 c1_i32_1142
  let v1975 : BitVec 32 := Scalar.addi v1973 v1974
  v1975.toNat
def k0_dev65 (d0 : Dev nD) : Nat :=
  let c0_i32_1167 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1166 : BitVec 32 := 4#32
  let v2021 : BitVec 32 := Scalar.muli v10 c4_i32_1166
  let v2022 : BitVec 32 := Scalar.addi c0_i32_1167 v2021
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1168 : BitVec 32 := 2#32
  let v2023 : BitVec 32 := Scalar.muli v5 c2_i32_1168
  let v2024 : BitVec 32 := Scalar.addi v2022 v2023
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1169 : BitVec 32 := 1#32
  let v2025 : BitVec 32 := Scalar.muli v8 c1_i32_1169
  let v2026 : BitVec 32 := Scalar.addi v2024 v2025
  v2026.toNat
def k0_dev66 (d0 : Dev nD) : Nat :=
  let c0_i32_1194 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1193 : BitVec 32 := 4#32
  let v2072 : BitVec 32 := Scalar.muli v10 c4_i32_1193
  let v2073 : BitVec 32 := Scalar.addi c0_i32_1194 v2072
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1195 : BitVec 32 := 2#32
  let v2074 : BitVec 32 := Scalar.muli v5 c2_i32_1195
  let v2075 : BitVec 32 := Scalar.addi v2073 v2074
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1196 : BitVec 32 := 1#32
  let v2076 : BitVec 32 := Scalar.muli v8 c1_i32_1196
  let v2077 : BitVec 32 := Scalar.addi v2075 v2076
  v2077.toNat
def k0_dev67 (d0 : Dev nD) : Nat :=
  let c0_i32_1221 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1220 : BitVec 32 := 4#32
  let v2123 : BitVec 32 := Scalar.muli v10 c4_i32_1220
  let v2124 : BitVec 32 := Scalar.addi c0_i32_1221 v2123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1222 : BitVec 32 := 2#32
  let v2125 : BitVec 32 := Scalar.muli v5 c2_i32_1222
  let v2126 : BitVec 32 := Scalar.addi v2124 v2125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1223 : BitVec 32 := 1#32
  let v2127 : BitVec 32 := Scalar.muli v8 c1_i32_1223
  let v2128 : BitVec 32 := Scalar.addi v2126 v2127
  v2128.toNat
def k0_off11 (d0 : Dev nD) (c0_i32_1235 : BitVec 32) : Fin 2 → Nat :=
  let c512_i32_18 : BitVec 32 := 512#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v30 : BitVec 32 := Scalar.muli c512_i32_18 v19
  let v2162 : BitVec 32 := Scalar.addi v30 c0_i32_1235
  let c0_i32_1242 : BitVec 32 := 0#32
  ![v2162.toNat, 0]
def k0_off12 (d0 : Dev nD) (c0_i32_1235 : BitVec 32) : Fin 2 → Nat :=
  let c512_i32_18 : BitVec 32 := 512#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v30 : BitVec 32 := Scalar.muli c512_i32_18 v19
  let v2162 : BitVec 32 := Scalar.addi v30 c0_i32_1235
  let v2173 : Index := Scalar.indexCast v2162
  let c0_1244 : Index := 0#32
  ![v2173.toNat, 0]
def k0_off13 (d0 : Dev nD) (c0_i32_1372 : BitVec 32) : Fin 2 → Nat :=
  let c512_i32_21 : BitVec 32 := 512#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v33 : BitVec 32 := Scalar.muli c512_i32_21 v23
  let v2458 : BitVec 32 := Scalar.addi v33 c0_i32_1372
  let c0_i32_1379 : BitVec 32 := 0#32
  ![v2458.toNat, 0]
def k0_off14 (d0 : Dev nD) (c0_i32_1372 : BitVec 32) : Fin 2 → Nat :=
  let c512_i32_21 : BitVec 32 := 512#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v33 : BitVec 32 := Scalar.muli c512_i32_21 v23
  let v2458 : BitVec 32 := Scalar.addi v33 c0_i32_1372
  let v2469 : Index := Scalar.indexCast v2458
  let c0_1381 : Index := 0#32
  ![v2469.toNat, 0]
def k0_off15 (d0 : Dev nD) (c0_i32_1508 : BitVec 32) : Fin 2 → Nat :=
  let c512_i32_16 : BitVec 32 := 512#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v28 : BitVec 32 := Scalar.muli c512_i32_16 v16
  let c256_i32_17 : BitVec 32 := 256#32
  let v29 : BitVec 32 := Scalar.addi v28 c256_i32_17
  let v2754 : BitVec 32 := Scalar.addi v29 c0_i32_1508
  let c0_i32_1515 : BitVec 32 := 0#32
  ![v2754.toNat, 0]
def k0_off16 (d0 : Dev nD) (c0_i32_1508 : BitVec 32) : Fin 2 → Nat :=
  let c512_i32_16 : BitVec 32 := 512#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v28 : BitVec 32 := Scalar.muli c512_i32_16 v16
  let c256_i32_17 : BitVec 32 := 256#32
  let v29 : BitVec 32 := Scalar.addi v28 c256_i32_17
  let v2754 : BitVec 32 := Scalar.addi v29 c0_i32_1508
  let v2765 : Index := Scalar.indexCast v2754
  let c0_1517 : Index := 0#32
  ![v2765.toNat, 0]
def k0_off17 (d0 : Dev nD) (c0_i32_1644 : BitVec 32) : Fin 2 → Nat :=
  let c512_i32_22 : BitVec 32 := 512#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v34 : BitVec 32 := Scalar.muli c512_i32_22 v23
  let c256_i32_23 : BitVec 32 := 256#32
  let v35 : BitVec 32 := Scalar.addi v34 c256_i32_23
  let v3050 : BitVec 32 := Scalar.addi v35 c0_i32_1644
  let c0_i32_1651 : BitVec 32 := 0#32
  ![v3050.toNat, 0]
def k0_off18 (d0 : Dev nD) (c0_i32_1644 : BitVec 32) : Fin 2 → Nat :=
  let c512_i32_22 : BitVec 32 := 512#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v34 : BitVec 32 := Scalar.muli c512_i32_22 v23
  let c256_i32_23 : BitVec 32 := 256#32
  let v35 : BitVec 32 := Scalar.addi v34 c256_i32_23
  let v3050 : BitVec 32 := Scalar.addi v35 c0_i32_1644
  let v3061 : Index := Scalar.indexCast v3050
  let c0_1653 : Index := 0#32
  ![v3061.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points

/-! The kernel's body as a program folded over lists: sixteen sends towards the second axis, a list
    of sixty-four blocks (each waits for one chunk, forwards it, normalises it and copies it out) and
    the two lists of closing waits. The printed body is this program by unfolding. -/

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- The effects of the body. -/
abbrev Eff (F : FTy → Type) := TpuEff nD τ sig (Elt F) Λ₀ .tc
/-- The body's programs. -/
abbrev Pr (F : FTy → Type) := Prog (Eff F) PUnit

/-- The partial sums, whole. -/
abbrev aM : Memref sig .tc .hbm S1x4096x2048 .f32 := Memref.whole main_arg0
/-- The scale row's staging buffer, whole. -/
abbrev gM : Memref sig .tc .vmem S2048 .f32 := Memref.whole cc0_stg0_0
/-- The result, whole. -/
abbrev oM : Memref sig .tc .hbm S2048x2048 .f32 := Memref.whole main_v1
/-- The receive buffer, whole. -/
abbrev wM : Memref sig .tc .vmem S2048x2048 .f32 := Memref.whole cc0_scratch0
/-- The buffer of the rows the device keeps, whole. -/
abbrev kM : Memref sig .tc .vmem S2048x2048 .f32 := Memref.whole cc0_scratch1

/-- A chunk offset fits: 32 whole rows of 2048. -/
abbrev Fit (o : Fin 2 → ℕ) : Prop := ∀ a, o a + S32x2048.size a ≤ S2048x2048.size a
/-- An offset of 32 rows in the partial sums fits. -/
abbrev FitA (o : Fin 3 → ℕ) : Prop := ∀ a, o a + S1x32x2048.size a ≤ S1x4096x2048.size a
/-- An offset of 2048 rows in the partial sums fits. -/
abbrev FitH (o : Fin 3 → ℕ) : Prop := ∀ a, o a + S1x2048x2048.size a ≤ S1x4096x2048.size a

/-- The rectangle of 32 rows at an offset. -/
abbrev rc (o : Fin 2 → ℕ) (h : Fit o) : Rect S2048x2048 :=
  Rect.unit (s := S2048x2048) o S32x2048.size h

/-- The 32 rows of a square buffer at an offset. -/
abbrev chM {sp : Space} (M : Memref sig .tc sp S2048x2048 .f32) (o : Fin 2 → ℕ) (h : Fit o) :
    Memref sig .tc sp S32x2048 .f32 := M.slice (rc o h) (fun _ => rfl)
/-- 32 rows of the partial sums. -/
abbrev aCh (o : Fin 3 → ℕ) (h : FitA o) : Memref sig .tc .hbm S32x2048 .f32 :=
  (aM.slice (Rect.unit (s := S1x4096x2048) o S1x32x2048.size h) (fun _ => rfl)).squeeze S32x2048
    squeezes_S1x32x2048_S32x2048
/-- 2048 rows of the partial sums. -/
abbrev aHf (o : Fin 3 → ℕ) (h : FitH o) : Memref sig .tc .hbm S2048x2048 .f32 :=
  (aM.slice (Rect.unit (s := S1x4096x2048) o S1x2048x2048.size h) (fun _ => rfl)).squeeze S2048x2048
    squeezes_S1x2048x2048_S2048x2048

/-- A remote copy: its two semaphores and the device it goes to. -/
structure Snd where
  ss : DmaSem sig
  rs : DmaSem sig
  dev : Dev nD

/-- The forwarding of one received chunk. -/
abbrev sendW (o : Fin 2 → ℕ) (h : Fit o) (s : Snd) (k : Pr F) : Pr F :=
  .op (.enqueueDma (chM wM o h) (.remote (Dev.tc s.dev) (chM wM o h) (.dma s.ss)) (.dma s.rs)
    (View.wordExact_bits rfl) (View.wordExact_bits rfl) ⟨⟨rfl, Or.inl rfl⟩, trivial⟩) fun _ => k

/-- The forwardings of one chunk, in order. -/
def sends (o : Fin 2 → ℕ) (h : Fit o) : List Snd → Pr F → Pr F
  | [], k => k
  | s :: l, k => sendW o h s (sends o h l k)

/-- The normalisation of one chunk and its copy to the result. -/
abbrev normP (o : Fin 2 → ℕ) (h : Fit o) (oL : Fin 2 → ℕ) (hL : Fit oL) (wb : DmaSem sig)
    (g : FVec F S2048 .f32) (k : Pr F) : Pr F :=
  .op (.load wM (rc oL hL).toLoadRect (View.loadsAt_vmem h_S32x2048)) fun v =>
  .op (.load kM (rc oL hL).toLoadRect (View.loadsAt_vmem h_S32x2048)) fun v' =>
  .op (.load kM (rc oL hL).toLoadRect (View.loadsAt_vmem h_S32x2048)) fun _ =>
  .op (.store kM (rc oL hL) (k0_pay2 g v v') Finset.univ
    (View.stores_vmem_bits_univ h_S32x2048 rfl) (.inl rfl)) fun _ =>
  .op (.enqueueDma (chM kM o h) (.here (chM oM o h)) (.dma wb)
    (View.wordExact_bits rfl) (View.wordExact_bits rfl) ⟨Or.inl rfl, trivial⟩) fun _ => k

/-- One block: the wait of the chunk, where the chunk lies (twice: the copies' offset and the
    loads'), its forwardings, and the semaphore of its copy to the result. -/
structure Blk (F : FTy → Type) where
  w : Eff F PUnit
  o : Fin 2 → ℕ
  h : Fit o
  oL : Fin 2 → ℕ
  hL : Fit oL
  snd : List Snd
  wb : DmaSem sig

/-- One block as a program. -/
abbrev blkP (g : FVec F S2048 .f32) (b : Blk F) (k : Pr F) : Pr F :=
  .op b.w fun _ => sends b.o b.h b.snd (normP b.o b.h b.oL b.hL b.wb g k)

/-- A list of blocks. -/
def blks (g : FVec F S2048 .f32) : List (Blk F) → Pr F → Pr F
  | [], k => k
  | b :: l, k => blkP g b (blks g l k)

/-- A list of single operations. -/
def ops : List (Eff F PUnit) → Pr F → Pr F
  | [], k => k
  | e :: l, k => .op e fun _ => ops l k

/-- The wait of a chunk that came by a copy out of a receive buffer. -/
abbrev waitW (o : Fin 2 → ℕ) (h : Fit o) (s : DmaSem sig) : Eff F PUnit :=
  .waitDma2 s (chM wM o h) (chM wM o h) (View.wordExact_bits rfl) (View.wordExact_bits rfl)
/-- The wait of a chunk that came out of the partial sums. -/
abbrev waitA (oa : Fin 3 → ℕ) (ha : FitA oa) (o : Fin 2 → ℕ) (h : Fit o) (s : DmaSem sig) :
    Eff F PUnit :=
  .waitDma2 s (aCh oa ha) (chM wM o h) ((View.wordExact_bits rfl).reshape _ _) (View.wordExact_bits rfl)
/-- The wait for a send out of the partial sums. -/
abbrev waitS (oa : Fin 3 → ℕ) (ha : FitA oa) (o : Fin 2 → ℕ) (h : Fit o) (s : DmaSem sig) :
    Eff F PUnit :=
  .waitDma2 s (chM wM o h) (aCh oa ha) (View.wordExact_bits rfl) ((View.wordExact_bits rfl).reshape _ _)
/-- The wait for a copy to the result. -/
abbrev waitO (o : Fin 2 → ℕ) (h : Fit o) (s : DmaSem sig) : Eff F PUnit :=
  .waitDma2 s (chM kM o h) (chM oM o h) (View.wordExact_bits rfl) (View.wordExact_bits rfl)
/-- A send of 32 rows of the partial sums. -/
abbrev sendA (oa : Fin 3 → ℕ) (ha : FitA oa) (o : Fin 2 → ℕ) (h : Fit o) (s : Snd) : Eff F PUnit :=
  .enqueueDma (aCh oa ha) (.remote (Dev.tc s.dev) (chM wM o h) (.dma s.ss)) (.dma s.rs)
    ((View.wordExact_bits rfl).reshape _ _) (View.wordExact_bits rfl) ⟨⟨rfl, Or.inl rfl⟩, trivial⟩

/-- A DMA semaphore by its number. -/
abbrev dsem (n : ℕ) (h : n < 194 := by decide) : DmaSem sig := ⟨n, h⟩

/-- The neighbour along the second axis. -/
abbrev dY (d0 : Dev nD) : Dev nD := ⟨k0_dev1 d0, k0_dev1_lt d0⟩
/-- The neighbour along the first axis. -/
abbrev dX (d0 : Dev nD) : Dev nD := ⟨k0_dev2 d0, k0_dev2_lt d0⟩
/-- The neighbour along the third axis. -/
abbrev dZ (d0 : Dev nD) : Dev nD := ⟨k0_dev3 d0, k0_dev3_lt d0⟩

/-- The word of a chunk's number in its half quarter. -/
abbrev wd (n : ℕ) : BitVec 32 := BitVec.ofNat 32 (32 * n)

/-- Eight indices. -/
abbrev l8 : List (Fin 8) :=
  [⟨0, by decide⟩, ⟨1, by decide⟩, ⟨2, by decide⟩, ⟨3, by decide⟩,
   ⟨4, by decide⟩, ⟨5, by decide⟩, ⟨6, by decide⟩, ⟨7, by decide⟩]

/-- The lower half of sixteen. -/
abbrev lo (k : Fin 8) : Fin 16 := ⟨k.val, by omega⟩
/-- The upper half of sixteen. -/
abbrev hi (k : Fin 8) : Fin 16 := ⟨k.val + 8, by omega⟩
/-- Sixteen indices. -/
abbrev l16 : List (Fin 16) := l8.map lo ++ l8.map hi

/-- Block `k` of phase 0. -/
abbrev b0 (d0 : Dev nD) (k : Fin 8) : Blk F where
  w := waitA (k0_off3 d0 (wd (lo k))) (k0_off3_inb d0 (lo k)) (k0_off2 d0 (wd (lo k))) (k0_off2_inb d0 (lo k))
    (dsem (17 + k) (by omega))
  o := k0_off2 d0 (wd (lo k))
  h := k0_off2_inb d0 (lo k)
  oL := k0_off4 d0 (wd k)
  hL := k0_off4_inb d0 k
  snd := [⟨dsem (33 + k) (by omega), dsem (41 + k) (by omega), dX d0⟩,
    ⟨dsem (97 + k) (by omega), dsem (113 + k) (by omega), dZ d0⟩]
  wb := dsem (130 + k) (by omega)

/-- Block `k` of phase 1. -/
abbrev b1 (d0 : Dev nD) (k : Fin 8) : Blk F where
  w := waitW (k0_off5 d0 (wd k)) (k0_off5_inb d0 k) (dsem (41 + k) (by omega))
  o := k0_off5 d0 (wd k)
  h := k0_off5_inb d0 k
  oL := k0_off6 d0 (wd k)
  hL := k0_off6_inb d0 k
  snd := [⟨dsem (105 + k) (by omega), dsem (121 + k) (by omega), dZ d0⟩]
  wb := dsem (138 + 2 * k) (by omega)

/-- Block `k` of phase 2. -/
abbrev b2 (d0 : Dev nD) (k : Fin 8) : Blk F where
  w := waitA (k0_off3 d0 (wd (hi k))) (k0_off3_inb d0 (hi k)) (k0_off2 d0 (wd (hi k))) (k0_off2_inb d0 (hi k))
    (dsem (25 + k) (by omega))
  o := k0_off7 d0 (wd k)
  h := k0_off7_inb d0 k
  oL := k0_off8 d0 (wd k)
  hL := k0_off8_inb d0 k
  snd := [⟨dsem (49 + k) (by omega), dsem (57 + k) (by omega), dZ d0⟩,
    ⟨dsem (65 + k) (by omega), dsem (81 + k) (by omega), dX d0⟩]
  wb := dsem (139 + 2 * k) (by omega)

/-- Block `k` of phase 3. -/
abbrev b3 (d0 : Dev nD) (k : Fin 8) : Blk F where
  w := waitW (k0_off9 d0 (wd k)) (k0_off9_inb d0 k) (dsem (57 + k) (by omega))
  o := k0_off9 d0 (wd k)
  h := k0_off9_inb d0 k
  oL := k0_off10 d0 (wd k)
  hL := k0_off10_inb d0 k
  snd := [⟨dsem (73 + k) (by omega), dsem (89 + k) (by omega), dX d0⟩]
  wb := dsem (154 + k) (by omega)

/-- Block `k` of phase 4. -/
abbrev b4 (d0 : Dev nD) (k : Fin 8) : Blk F where
  w := waitW (k0_off11 d0 (wd k)) (k0_off11_inb d0 k) (dsem (113 + k) (by omega))
  o := k0_off11 d0 (wd k)
  h := k0_off11_inb d0 k
  oL := k0_off12 d0 (wd k)
  hL := k0_off12_inb d0 k
  snd := []
  wb := dsem (162 + k) (by omega)

/-- Block `k` of phase 5. -/
abbrev b5 (d0 : Dev nD) (k : Fin 8) : Blk F where
  w := waitW (k0_off13 d0 (wd k)) (k0_off13_inb d0 k) (dsem (121 + k) (by omega))
  o := k0_off13 d0 (wd k)
  h := k0_off13_inb d0 k
  oL := k0_off14 d0 (wd k)
  hL := k0_off14_inb d0 k
  snd := []
  wb := dsem (170 + k) (by omega)

/-- Block `k` of phase 6. -/
abbrev b6 (d0 : Dev nD) (k : Fin 8) : Blk F where
  w := waitW (k0_off15 d0 (wd k)) (k0_off15_inb d0 k) (dsem (81 + k) (by omega))
  o := k0_off15 d0 (wd k)
  h := k0_off15_inb d0 k
  oL := k0_off16 d0 (wd k)
  hL := k0_off16_inb d0 k
  snd := []
  wb := dsem (178 + k) (by omega)

/-- Block `k` of phase 7. -/
abbrev b7 (d0 : Dev nD) (k : Fin 8) : Blk F where
  w := waitW (k0_off17 d0 (wd k)) (k0_off17_inb d0 k) (dsem (89 + k) (by omega))
  o := k0_off17 d0 (wd k)
  h := k0_off17_inb d0 k
  oL := k0_off18 d0 (wd k)
  hL := k0_off18_inb d0 k
  snd := []
  wb := dsem (186 + k) (by omega)

/-- The indices of the blocks: a phase and a number. -/
abbrev T := Fin 8 × Fin 8

/-- The blocks' order in the program. -/
def order : List T :=
  l8.map (fun k => (0, k)) ++ l8.flatMap (fun k => [(1, k), (2, k)]) ++ l8.map (fun k => (3, k)) ++
    l8.map (fun k => (4, k)) ++ l8.map (fun k => (5, k)) ++ l8.map (fun k => (6, k)) ++
    l8.map (fun k => (7, k))

/-- The block at an index. -/
def blkAt (d0 : Dev nD) (t : T) : Blk F :=
  match t.1 with
  | 0 => b0 d0 t.2
  | 1 => b1 d0 t.2
  | 2 => b2 d0 t.2
  | 3 => b3 d0 t.2
  | 4 => b4 d0 t.2
  | 5 => b5 d0 t.2
  | 6 => b6 d0 t.2
  | 7 => b7 d0 t.2

/-- The send of 32 rows of the partial sums to the neighbour along the second axis. -/
abbrev ySend (d0 : Dev nD) (k : Fin 16) : Eff F PUnit :=
  sendA (k0_off3 d0 (wd k)) (k0_off3_inb d0 k) (k0_off2 d0 (wd k)) (k0_off2_inb d0 k)
    ⟨dsem (1 + k) (by omega), dsem (17 + k) (by omega), dY d0⟩
/-- Its closing wait. -/
abbrev yWait (d0 : Dev nD) (k : Fin 16) : Eff F PUnit :=
  waitS (k0_off3 d0 (wd k)) (k0_off3_inb d0 k) (k0_off2 d0 (wd k)) (k0_off2_inb d0 k)
    (dsem (1 + k) (by omega))

/-- The closing waits of a block's forwardings. -/
abbrev sndWaits (b : Blk F) : List (Eff F PUnit) := b.snd.map fun s => waitW b.o b.h s.ss

/-- The copy of the rows the device keeps. -/
abbrev locCopy (d0 : Dev nD) : Eff F PUnit :=
  .enqueueDma (aHf (k0_off1 d0) (k0_off1_inb d0)) (.here kM) (.dma (dsem 129))
    ((View.wordExact_bits rfl).reshape _ _) (Memref.isWhole_whole cc0_scratch1).wordExact ⟨Or.inl rfl, trivial⟩
/-- Its wait. -/
abbrev locWait (d0 : Dev nD) : Eff F PUnit :=
  .waitDma2 (dsem 129) (aHf (k0_off1 d0) (k0_off1_inb d0)) kM
    ((View.wordExact_bits rfl).reshape _ _) (Memref.isWhole_whole cc0_scratch1).wordExact

/-- The semaphore the devices meet on. -/
abbrev barS : Sem sig := (SemArray.scalar (sig.barrier 0 rfl) : Sems sig S_).sem

/-- What the body runs after the local rows have come. -/
abbrev tailP (d0 : Dev nD) : Pr F :=
  .op (.load gM (Rect.unit (s := S2048) ![0] S2048.size inb_S2048_S2048_0).toLoadRect (View.loadsAt_vmem h_S2048))
    fun g =>
  blks (k0_pay1 g) (order.map (blkAt d0)) <|
  ops (l16.map (yWait d0) ++ order.flatMap (fun t => sndWaits (blkAt d0 t))) <|
  ops (order.map fun t => waitO (blkAt (F := F) d0 t).o (blkAt (F := F) d0 t).h (blkAt (F := F) d0 t).wb) <|
  .ret ⟨⟩

/-- The whole body. -/
abbrev prog : Pr F :=
  .op .deviceId fun d0 =>
  .op (locCopy d0) fun _ =>
  .op (.semSignal (Dev.tc (dY d0)) barS 1) fun _ =>
  .op (.semSignal (Dev.tc (dX d0)) barS 1) fun _ =>
  .op (.semSignal (Dev.tc (dZ d0)) barS 1) fun _ =>
  .op (.semWait barS 3) fun _ =>
  ops (l16.map (ySend d0)) <|
  .op (locWait d0) fun _ =>
  tailP d0

set_option maxRecDepth 100000 in
set_option maxHeartbeats 0 in
/-- The printed body is the folded program. -/
theorem body_eq (t : Fin cfg0.N) :
    cc0_body (F := F) aM (Memref.isWhole_whole _) gM (Memref.isWhole_whole _) oM (Memref.isWhole_whole _)
      wM (Memref.isWhole_whole _) kM (Memref.isWhole_whole _) cc0_scratch2 cc0_scratch3 cc0_scratch4
      cc0_scratch5 cc0_scratch6 cc0_scratch7 cc0_scratch8 cc0_scratch9 cc0_scratch10 cc0_scratch11
      cc0_scratch12 cc0_scratch13 = prog := rfl

end Cert.KernelIdeal.Own

end
-- ==== Proof.Geom.lean ====
module

public import proofs.«01_k».proof.Proof.Prog
public import Idealize.ShloMosaic.Lib.ValueLayout
public import Idealize.ShloMosaic.Lib.Tactic

/-! The mesh, the chunks, the table of the copies, and the contents each buffer comes to hold. -/

@[expose] public section

noncomputable section

namespace Cert.KernelIdeal.Own

open Idealize.ShloMosaic Idealize.ShloMosaic.TcCoe Idealize.ShloMosaic.ValueIdx
open Idealize.SL Idealize.SL.Sem
open Cert.KernelIdeal Cert.KernelIdeal.Gen

variable {F : FTy → Type} [FloatOps F]

/-! ## The mesh and the table -/

/-- The neighbour in a direction: 0 the second axis, 1 the first, 2 the third. -/
def pe (d : Fin 3) (c : Dev nD) : Dev nD :=
  match d with
  | 0 => dY c
  | 1 => dX c
  | 2 => dZ c

/-- A neighbour's neighbour in one direction is the device itself. -/
theorem pe_pe : ∀ (d : Fin 3) (c : Dev nD), pe d (pe d c) = c := by decide +kernel

/-- The chunk a block works on: quarter, half and number, by the block's phase. -/
def chN (c : Dev nD) (t : T) : ℕ :=
  match t.1 with
  | 0 => 32 * (c.val / 4) + 16 * (c.val % 2) + t.2.val
  | 1 => 32 * (1 - c.val / 4) + 16 * (c.val % 2) + t.2.val
  | 2 => 32 * (c.val / 4) + 16 * (c.val % 2) + 8 + t.2.val
  | 3 => 32 * (c.val / 4) + 16 * (1 - c.val % 2) + 8 + t.2.val
  | 4 => 32 * (c.val / 4) + 16 * (1 - c.val % 2) + t.2.val
  | 5 => 32 * (1 - c.val / 4) + 16 * (1 - c.val % 2) + t.2.val
  | 6 => 32 * (1 - c.val / 4) + 16 * (c.val % 2) + 8 + t.2.val
  | 7 => 32 * (1 - c.val / 4) + 16 * (1 - c.val % 2) + 8 + t.2.val

theorem chN_lt : ∀ (c : Dev nD) (t : T), chN c t < 64 := by decide +kernel

/-- The chunk a block works on. -/
def ch (c : Dev nD) (t : T) : Fin 64 := ⟨chN c t, chN_lt c t⟩

theorem ch_inj : ∀ c : Dev nD, Function.Injective (ch c) := by
  unfold Function.Injective; decide +kernel

theorem ch_bij (c : Dev nD) : Function.Bijective (ch c) :=
  (Fintype.bijective_iff_injective_and_card _).2 ⟨ch_inj c, by decide⟩

/-- The blocks of a device are the 64 chunks. -/
def chE (c : Dev nD) : T ≃ Fin 64 := Equiv.ofBijective (ch c) (ch_bij c)

/-- The direction a block's chunk comes from. -/
def dirT (t : T) : Fin 3 := ![0, 1, 0, 2, 2, 2, 1, 1] t.1

/-- The block at the sender whose chunk is the one sent. -/
def srcT (t : T) : T := (![0, 0, 2, 2, 0, 1, 2, 3] t.1, t.2)

/-- What a device receives for a block is what its neighbour holds for the source block. -/
theorem ch_pe : ∀ (t : T) (c : Dev nD), ch (pe (dirT t) c) t = ch c (srcT t) := by decide +kernel

/-- The blocks that a block's chunk is forwarded to, in order. -/
def outs (t : T) : List T :=
  (![[1, 4], [5], [3, 6], [7], [], [], [], []] t.1).map fun p => (p, t.2)

theorem outs_src : ∀ t : T, ∀ u ∈ outs t, srcT u = t ∧ dirT u ≠ 0 := by decide +kernel

/-- The send semaphore of the copy to a block. -/
def sS (t : T) : DmaSem sig :=
  ⟨![1, 33, 9, 49, 97, 105, 65, 73] t.1 + t.2.val, by revert t; decide +kernel⟩
/-- The receive semaphore of the copy to a block. -/
def rS (t : T) : DmaSem sig :=
  ⟨![17, 41, 25, 57, 113, 121, 81, 89] t.1 + t.2.val, by revert t; decide +kernel⟩
/-- The semaphore of a block's copy to the result. -/
def wS (t : T) : DmaSem sig :=
  ⟨![130, 138, 139, 154, 162, 170, 178, 186] t.1 + ![1, 2, 2, 1, 1, 1, 1, 1] t.1 * t.2.val,
    by revert t; decide +kernel⟩

/-- The row offset of a chunk. -/
def ofs (j : Fin 64) : Fin 2 → ℕ := ![32 * j.val, 0]
theorem ofs_fit : ∀ j : Fin 64, Fit (ofs j) := by decide +kernel

theorem e2a : ∀ (c : Dev nD) (k : Fin 8), k0_off2 c (wd (lo k)) = ofs (ch c (0, k)) := by decide +kernel
theorem e2b : ∀ (c : Dev nD) (k : Fin 8), k0_off2 c (wd (hi k)) = ofs (ch c (2, k)) := by decide +kernel
theorem e4 : ∀ (c : Dev nD) (k : Fin 8), k0_off4 c (wd k) = ofs (ch c (0, k)) := by decide +kernel
theorem e5 : ∀ (c : Dev nD) (k : Fin 8), k0_off5 c (wd k) = ofs (ch c (1, k)) := by decide +kernel
theorem e6 : ∀ (c : Dev nD) (k : Fin 8), k0_off6 c (wd k) = ofs (ch c (1, k)) := by decide +kernel
theorem e7 : ∀ (c : Dev nD) (k : Fin 8), k0_off7 c (wd k) = ofs (ch c (2, k)) := by decide +kernel
theorem e8 : ∀ (c : Dev nD) (k : Fin 8), k0_off8 c (wd k) = ofs (ch c (2, k)) := by decide +kernel
theorem e9 : ∀ (c : Dev nD) (k : Fin 8), k0_off9 c (wd k) = ofs (ch c (3, k)) := by decide +kernel
theorem e10 : ∀ (c : Dev nD) (k : Fin 8), k0_off10 c (wd k) = ofs (ch c (3, k)) := by decide +kernel
theorem e11 : ∀ (c : Dev nD) (k : Fin 8), k0_off11 c (wd k) = ofs (ch c (4, k)) := by decide +kernel
theorem e12 : ∀ (c : Dev nD) (k : Fin 8), k0_off12 c (wd k) = ofs (ch c (4, k)) := by decide +kernel
theorem e13 : ∀ (c : Dev nD) (k : Fin 8), k0_off13 c (wd k) = ofs (ch c (5, k)) := by decide +kernel
theorem e14 : ∀ (c : Dev nD) (k : Fin 8), k0_off14 c (wd k) = ofs (ch c (5, k)) := by decide +kernel
theorem e15 : ∀ (c : Dev nD) (k : Fin 8), k0_off15 c (wd k) = ofs (ch c (6, k)) := by decide +kernel
theorem e16 : ∀ (c : Dev nD) (k : Fin 8), k0_off16 c (wd k) = ofs (ch c (6, k)) := by decide +kernel
theorem e17 : ∀ (c : Dev nD) (k : Fin 8), k0_off17 c (wd k) = ofs (ch c (7, k)) := by decide +kernel
theorem e18 : ∀ (c : Dev nD) (k : Fin 8), k0_off18 c (wd k) = ofs (ch c (7, k)) := by decide +kernel

/-- A statement about every block, from the eight phases. -/
theorem forall_T {P : T → Prop} (h0 : ∀ k, P (0, k)) (h1 : ∀ k, P (1, k)) (h2 : ∀ k, P (2, k))
    (h3 : ∀ k, P (3, k)) (h4 : ∀ k, P (4, k)) (h5 : ∀ k, P (5, k)) (h6 : ∀ k, P (6, k))
    (h7 : ∀ k, P (7, k)) (t : T) : P t :=
  match t with
  | (0, k) => h0 k
  | (1, k) => h1 k
  | (2, k) => h2 k
  | (3, k) => h3 k
  | (4, k) => h4 k
  | (5, k) => h5 k
  | (6, k) => h6 k
  | (7, k) => h7 k

/-- Where a block's copies lie. -/
theorem blk_o (c : Dev nD) (t : T) : (blkAt (F := F) c t).o = ofs (ch c t) :=
  forall_T (P := fun t => (blkAt (F := F) c t).o = ofs (ch c t))
    (e2a c) (e5 c) (e7 c) (e9 c) (e11 c) (e13 c) (e15 c) (e17 c) t

/-- Where a block's loads and its store lie. -/
theorem blk_oL (c : Dev nD) (t : T) : (blkAt (F := F) c t).oL = ofs (ch c t) :=
  forall_T (P := fun t => (blkAt (F := F) c t).oL = ofs (ch c t))
    (e4 c) (e6 c) (e8 c) (e10 c) (e12 c) (e14 c) (e16 c) (e18 c) t

/-- A copy to a block, as its sender names it. -/
abbrev sndOf (c : Dev nD) (t : T) : Snd := ⟨sS t, rS t, pe (dirT t) c⟩

/-- A block's forwardings, by the table. -/
theorem blk_snd (c : Dev nD) (t : T) : (blkAt (F := F) c t).snd = (outs t).map (sndOf c) :=
  forall_T (P := fun t => (blkAt (F := F) c t).snd = (outs t).map (sndOf c))
    (fun _ => rfl) (fun _ => rfl) (fun _ => rfl) (fun _ => rfl) (fun _ => rfl) (fun _ => rfl)
    (fun _ => rfl) (fun _ => rfl) t

/-- A block's semaphore for its copy to the result. -/
theorem blk_wb (c : Dev nD) (t : T) : (blkAt (F := F) c t).wb = wS t :=
  forall_T (P := fun t => (blkAt (F := F) c t).wb = wS t)
    (fun k => Fin.ext (by show _ = 130 + 1 * k.val; rw [Nat.one_mul]; rfl))
    (fun _ => rfl) (fun _ => rfl)
    (fun k => Fin.ext (by show _ = 154 + 1 * k.val; rw [Nat.one_mul]; rfl))
    (fun k => Fin.ext (by show _ = 162 + 1 * k.val; rw [Nat.one_mul]; rfl))
    (fun k => Fin.ext (by show _ = 170 + 1 * k.val; rw [Nat.one_mul]; rfl))
    (fun k => Fin.ext (by show _ = 178 + 1 * k.val; rw [Nat.one_mul]; rfl))
    (fun k => Fin.ext (by show _ = 186 + 1 * k.val; rw [Nat.one_mul]; rfl)) t

/-! ## Chunk views -/

/-- A chunk of a square buffer. -/
abbrev cM {sp : Space} (M : Memref sig .tc sp S2048x2048 .f32) (j : Fin 64) :
    Memref sig .tc sp S32x2048 .f32 := chM M (ofs j) (ofs_fit j)

/-- The rectangle of a chunk. -/
abbrev rj (j : Fin 64) : Rect S2048x2048 := rc (ofs j) (ofs_fit j)

/-- The places of a chunk. -/
def kset (j : Fin 64) : Finset S2048x2048.Idx := Finset.univ.map (rj j).emb

theorem mem_kset (j : Fin 64) (i : S2048x2048.Idx) : i ∈ kset j ↔ (i 0).val / 32 = j.val := by
  have h0 : ∀ x : S32x2048.Idx, ((rj j).emb x 0).val = 32 * j.val + 1 * (x 0).val := fun _ => rfl
  have h1 : ∀ x : S32x2048.Idx, ((rj j).emb x 1).val = 0 + 1 * (x 1).val := fun _ => rfl
  unfold kset
  rw [Finset.mem_map]
  constructor
  · rintro ⟨x, -, rfl⟩
    have hx : (x 0).val < 32 := (x 0).isLt
    rw [h0]; omega
  · intro h
    refine ⟨ix2 (⟨(i 0).val % 32, Nat.mod_lt _ (by decide)⟩ : Fin 32) (⟨(i 1).val, (i 1).isLt⟩ : Fin 2048),
      Finset.mem_univ _, ?_⟩
    funext a
    match a with
    | ⟨0, _⟩ => refine Fin.ext ?_; rw [show (⟨0, _⟩ : Fin 2) = 0 from rfl, h0]; show 32 * j.val + 1 * ((i 0).val % 32) = _; omega
    | ⟨1, _⟩ => refine Fin.ext ?_; rw [show (⟨1, _⟩ : Fin 2) = 1 from rfl, h1]; show 0 + 1 * (i 1).val = _; omega

theorem kset_disj (i j : Fin 64) (h : i ≠ j) : Disjoint (kset i) (kset j) := by
  rw [Finset.disjoint_left]
  intro x hi hj
  rw [mem_kset] at hi hj
  exact h (Fin.ext (hi.symm.trans hj))

theorem kset_cover : Finset.univ.biUnion kset = (Finset.univ : Finset S2048x2048.Idx) := by
  ext x
  simp only [Finset.mem_biUnion, Finset.mem_univ, true_and, iff_true]
  have hx : (x 0).val < 2048 := (x 0).isLt
  exact ⟨⟨(x 0).val / 32, by omega⟩, (mem_kset _ _).2 rfl⟩

theorem set_w (j : Fin 64) : (cM wM j).view.set = kset j := rfl
theorem set_k (j : Fin 64) : (cM kM j).view.set = kset j := rfl
theorem set_o (j : Fin 64) : (cM oM j).view.set = kset j := rfl

/-- What a copy into a chunk credits. -/
@[irreducible] def N : ℕ := (cM wM 0).view.dmaCredit
theorem N_eq : N = (cM wM 0).view.dmaCredit := by unfold N; rfl
theorem N_pos : 0 < N := N_eq ▸ View.dmaCredit_pos _ (by decide)
theorem N_w (o : Fin 2 → ℕ) (h : Fit o) : (chM wM o h).view.dmaCredit = N := N_eq ▸ rfl
theorem N_a (o : Fin 3 → ℕ) (h : FitA o) : (aCh o h).view.dmaCredit = N := N_eq ▸ rfl
/-- What the copy of a chunk to the result credits. -/
@[irreducible] def NO : ℕ := (cM oM 0).view.dmaCredit
theorem NO_eq : NO = (cM oM 0).view.dmaCredit := by unfold NO; rfl
theorem NO_pos : 0 < NO := NO_eq ▸ View.dmaCredit_pos _ (by decide)
theorem N_o (o : Fin 2 → ℕ) (h : Fit o) : (chM oM o h).view.dmaCredit = NO := NO_eq ▸ rfl
/-- What the local copy credits. -/
@[irreducible] def NL : ℕ := kM.view.dmaCredit
theorem NL_eq : NL = kM.view.dmaCredit := by unfold NL; rfl
theorem NL_pos : 0 < NL := NL_eq ▸ View.dmaCredit_pos _ (by decide)

/-! ## Contents -/

variable (m : (ℓ : Loc nD τ sig) → Buf (Elt F) ℓ)

/-- The partial sums of a device. -/
abbrev arg0 (c : Dev nD) : Buf (Elt F) ((c : Thread nD τ).loc main_arg0) := m ((c : Thread nD τ).loc main_arg0)

/-- The half of the partial sums' rows that a device finishes. -/
abbrev hM (c : Dev nD) : Memref sig .tc .hbm S2048x2048 .f32 := aHf (k0_off1 c) (k0_off1_inb c)

/-- The rows that a device keeps. -/
def keepc (c : Dev nD) : S2048x2048.Idx → Elt F .f32 := (hM c).view.read (Elt F) (arg0 m c)

/-- The device whose rows arrive in a quarter of the receive buffer. -/
def sd (c : Dev nD) (q : ℕ) : Dev nD :=
  ⟨4 * (q / 2 % 2) + 2 * (1 - c.val / 2 % 2) + q % 2, by show _ < 8; omega⟩

/-- What the receive buffer comes to hold. -/
def Wc (c : Dev nD) : S2048x2048.Idx → Elt F .f32 := fun i =>
  (hM c).view.read (Elt F) (arg0 m (sd c ((i 0).val / 512))) i

/-- The two devices along the first or third axis receive the same. -/
theorem Wc_pe (d : Fin 3) (hd : d ≠ 0) (c : Dev nD) : Wc m (pe d c) = Wc m c := by
  have h1 : ∀ (d : Fin 3) (c : Dev nD), d ≠ 0 → k0_off1 (pe d c) = k0_off1 c := by decide +kernel
  have h2 : ∀ (d : Fin 3) (c : Dev nD), d ≠ 0 → (pe d c).val / 2 % 2 = c.val / 2 % 2 := by decide +kernel
  have h3 : ∀ q, sd (pe d c) q = sd c q := fun q => Fin.ext (by unfold sd; simp only [h2 d c hd])
  have h4 : ∀ o (h : FitH o) (f : (main_arg0 : Ref sig .tc).ty.Contents (Elt F)) (i : S2048x2048.Idx), o = k0_off1 c →
      (aHf o h).view.read (Elt F) f i = (hM c).view.read (Elt F) f i := by rintro o h f i rfl; rfl
  funext i
  unfold Wc
  rw [h3]
  exact h4 _ _ _ i (h1 d c hd)

/-- Chunk `j` of the rows a device sends to its neighbour along the second axis. -/
def aofs (c : Dev nD) (j : Fin 64) : Fin 3 → ℕ := ![0, 2048 * (1 - c.val / 2 % 2) + 32 * j.val, 0]
theorem aofs_fit : ∀ (c : Dev nD) (j : Fin 64), FitA (aofs c j) := by decide +kernel
/-- That chunk. -/
abbrev aM' (c : Dev nD) (j : Fin 64) : Memref sig .tc .hbm S32x2048 .f32 := aCh (aofs c j) (aofs_fit c j)

theorem e3a : ∀ (c : Dev nD) (k : Fin 8), k0_off3 c (wd (lo k)) = aofs c (ch c (0, k)) := by decide +kernel
theorem e3b : ∀ (c : Dev nD) (k : Fin 8), k0_off3 c (wd (hi k)) = aofs c (ch c (2, k)) := by decide +kernel

theorem hM_emb (c : Dev nD) (a b : Fin 2048) :
    (hM c).view.emb (ix2 a b) = (Rect.unit (s := S1x4096x2048) (k0_off1 c) S1x2048x2048.size (k0_off1_inb c)).emb
      (ix3 (⟨0, Nat.one_pos⟩ : Fin 1) a b) :=
  congrArg (fun z => (Rect.unit (s := S1x4096x2048) (k0_off1 c) S1x2048x2048.size (k0_off1_inb c)).emb z)
    (reshapeEquiv_ix2_1ab _ a b)

theorem aCh_emb (o : Fin 3 → ℕ) (h : FitA o) (a : Fin 32) (b : Fin 2048) :
    (aCh o h).view.emb (ix2 a b) = (Rect.unit (s := S1x4096x2048) o S1x32x2048.size h).emb
      (ix3 (⟨0, Nat.one_pos⟩ : Fin 1) a b) :=
  congrArg (fun z => (Rect.unit (s := S1x4096x2048) o S1x32x2048.size h).emb z)
    (reshapeEquiv_ix2_1ab _ a b)

theorem rj_emb (j : Fin 64) (a : Fin 32) (b : Fin 2048) :
    (rj j).emb (ix2 a b) = ix2 (⟨32 * j.val + a.val, by omega⟩ : Fin 2048) b := by
  funext d
  match d with
  | ⟨0, _⟩ => exact Fin.ext (show 32 * j.val + 1 * a.val = 32 * j.val + a.val by omega)
  | ⟨1, _⟩ => exact Fin.ext (show 0 + 1 * b.val = b.val by omega)

/-- A chunk sent along the second axis lands as what its receiver comes to hold. -/
theorem land_y (c : Dev nD) (t : T) (hd : dirT t = 0)
    (fd : S2048x2048.Idx → Elt F .f32) (i : S2048x2048.Idx) (hi : i ∈ kset (ch (pe 0 c) t)) :
    (cM wM (ch (pe 0 c) t)).view.write (Elt F) fd ((aM' c (ch c t)).view.read (Elt F) (arg0 m c)) Finset.univ i
      = Wc m (pe 0 c) i := by
  have hs : ∀ (c : Dev nD) (t : T), dirT t = 0 → sd (pe 0 c) ((ch (pe 0 c) t).val / 16) = c := by decide +kernel
  have hch : ∀ (c : Dev nD) (t : T), dirT t = 0 → (ch c t).val = (ch (pe 0 c) t).val := by decide +kernel
  have hY : ∀ c : Dev nD, k0_off1 (pe 0 c) = ![0, 2048 * (1 - c.val / 2 % 2), 0] := by decide +kernel
  generalize hj : ch (pe 0 c) t = j at *
  have hs := hs c t hd
  have hch := hch c t hd
  rw [hj] at hs hch
  obtain ⟨x, -, rfl⟩ := Finset.mem_map.1 hi
  obtain ⟨a, b, rfl⟩ : ∃ (a : Fin 32) (b : Fin 2048), x = ix2 a b := ⟨x 0, x 1, eq_ix2 x⟩
  refine (View.write_emb_of_mem (v := (cM wM j).view) fd _ (Finset.mem_univ _)).trans ?_
  unfold Wc
  rw [rj_emb]
  have hq : sd (pe 0 c) ((ix2 (⟨32 * j.val + a.val, by omega⟩ : Fin 2048) b : S2048x2048.Idx) 0 / 512) = c := by
    show sd (pe 0 c) ((32 * j.val + a.val) / 512) = c
    rw [show (32 * j.val + a.val) / 512 = j.val / 16 by omega]; exact hs
  rw [hq]
  show arg0 m c ((aM' c (ch c t)).view.emb (ix2 a b)) = arg0 m c ((hM (pe 0 c)).view.emb (ix2 _ b))
  congr 1
  rw [hM_emb, aCh_emb]
  have hYc := hY c
  funext d
  match d with
  | ⟨0, _⟩ => exact Fin.ext (show 0 + 1 * 0 = k0_off1 (pe 0 c) 0 + 1 * 0 by rw [hYc]; rfl)
  | ⟨1, _⟩ =>
    exact Fin.ext (show (2048 * (1 - c.val / 2 % 2) + 32 * (ch c t).val) + 1 * a.val
      = k0_off1 (pe 0 c) 1 + 1 * (32 * j.val + a.val) by
        rw [hYc, hch]; show _ = 2048 * (1 - c.val / 2 % 2) + _; omega)
  | ⟨2, _⟩ => exact Fin.ext (show 0 + 1 * b.val = k0_off1 (pe 0 c) 2 + 1 * b.val by rw [hYc]; rfl)

/-- A forwarded chunk lands as what its receiver comes to hold. -/
theorem land_f (c : Dev nD) (d : Fin 3) (hd : d ≠ 0) (j : Fin 64)
    (fd : S2048x2048.Idx → Elt F .f32) (i : S2048x2048.Idx) (hi : i ∈ kset j) :
    (cM wM j).view.write (Elt F) fd ((cM wM j).view.read (Elt F) (Wc m c)) Finset.univ i
      = Wc m (pe d c) i := by
  rw [Wc_pe m d hd]
  obtain ⟨x, -, rfl⟩ := Finset.mem_map.1 hi
  exact View.write_emb_of_mem (v := (cM wM j).view) fd _ (Finset.mem_univ _)

/-- A chunk of a square buffer's contents as loaded. -/
abbrev rdW (j : Fin 64) (f : S2048x2048.Idx → Elt F .f32) : Vec F S32x2048 .f32 :=
  wM.view.readAt (Elt F) (rj j).toLoadRect f
/-- The same of the kept rows. -/
abbrev rdK (j : Fin 64) (f : S2048x2048.Idx → Elt F .f32) : Vec F S32x2048 .f32 :=
  kM.view.readAt (Elt F) (rj j).toLoadRect f

/-- The scale row as the body reads it. -/
def gam (g : Vec F S2048 .f32) : FVec F S2048 .f32 := k0_pay1 g

/-- The normalised chunk `j`. -/
def norm (g : Vec F S2048 .f32) (c : Dev nD) (j : Fin 64) : FVec F S32x2048 .f32 :=
  k0_pay2 (gam g) (rdW j (Wc m c)) (rdK j (keepc m c))

/-- The chunk a row lies in. -/
def chunkOf (i : S2048x2048.Idx) : Fin 64 := ⟨(i 0).val / 32, by have : (i 0).val < 2048 := (i 0).isLt; omega⟩

/-- What the result comes to hold. -/
def OUT (g : Vec F S2048 .f32) (c : Dev nD) : S2048x2048.Idx → Elt F .f32 := fun i =>
  norm m g c (chunkOf i) (ix2 (⟨(i 0).val % 32, Nat.mod_lt _ (by decide)⟩ : Fin 32) (⟨(i 1).val, (i 1).isLt⟩ : Fin 2048))

/-- The store of a normalised chunk, copied to the result, is the result there. -/
theorem land_o (g : Vec F S2048 .f32) (c : Dev nD) (j : Fin 64) (fk fo : S2048x2048.Idx → Elt F .f32)
    (i : S2048x2048.Idx) (hi : i ∈ kset j) :
    (cM oM j).view.write (Elt F) fo ((cM kM j).view.read (Elt F)
      ((cM kM j).view.write (Elt F) fk (norm m g c j) Finset.univ)) Finset.univ i = OUT m g c i := by
  obtain ⟨x, -, rfl⟩ := Finset.mem_map.1 hi
  obtain ⟨a, b, rfl⟩ : ∃ (a : Fin 32) (b : Fin 2048), x = ix2 a b := ⟨x 0, x 1, eq_ix2 x⟩
  refine (View.write_emb_of_mem (v := (cM oM j).view) fo _ (Finset.mem_univ _)).trans ?_
  refine (View.write_emb_of_mem (v := (cM kM j).view) fk (norm m g c j) (Finset.mem_univ (ix2 a b))).trans ?_
  unfold OUT
  have h1 : chunkOf ((rj j).emb (ix2 a b)) = j := by
    rw [rj_emb]; exact Fin.ext (show (32 * j.val + a.val) / 32 = j.val by omega)
  rw [h1, rj_emb]
  show norm m g c j _ = norm m g c j _
  congr 1
  funext d
  match d with
  | ⟨0, _⟩ => exact Fin.ext (show a.val = (32 * j.val + a.val) % 32 by omega)
  | ⟨1, _⟩ => rfl

end Cert.KernelIdeal.Own

end
-- ==== Proof.Sched.lean ====
module

public import proofs.«01_k».proof.Proof.Geom
public import proofs.«01_k».proof.Proof.Gen.KernelIdeal.Launch
public import Idealize.ShloMosaic.Lib.Pipeline.Launch
public import Idealize.ShloMosaic.Lib.Pipeline.Kit

/-! The cells of the protocol, what each hands over, and what each device owes. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's rounds, duties named by a direction. -/
abbrev UB : Type := URounds (GSem nD τ sig) (Fin 3)
/-- The pipeline's rounds and the protocol's. -/
abbrev UU : Type := UR sig nD τ × UB

local notation "𝕄" => MT nD τ sig Unit (Elt F) ℕ UU ℕ

/-- The pipeline's copy. -/
abbrev EP : Emb (UR sig nD τ) (MT nD τ sig Unit (Elt F) ℕ UU ℕ) := embL
/-- The protocol's copy. -/
abbrev ER : Emb UB (MT nD τ sig Unit (Elt F) ℕ UU ℕ) := embR

variable (m : (ℓ : Loc nD τ sig) → Buf (Elt F) ℓ)

/-! ## Cells -/

/-- A device's cells: the meeting, the local copy, and three for each block (send, receive, write-back). -/
abbrev Ck := Option (Option (Fin 3 × T))
abbrev cB : Ck := none
abbrev cL : Ck := some none
abbrev cS (t : T) : Ck := some (some (0, t))
abbrev cR (t : T) : Ck := some (some (1, t))
abbrev cW (t : T) : Ck := some (some (2, t))

/-- A cell's semaphore. -/
def csem : Ck → SemLoc sig
  | none => .reg barS
  | some none => .dma (dsem 129)
  | some (some (0, t)) => .dma (sS t)
  | some (some (1, t)) => .dma (rS t)
  | some (some (2, t)) => .dma (wS t)

/-- The cell of a semaphore. -/
def dec : SemLoc sig → Option Ck
  | .reg _ => some none
  | .dma n =>
    if n.val = 0 then none
    else if n.val < 129 then
      some (some (some ((![0, 0, 1, 1, 0, 1, 0, 1, 0, 0, 1, 1, 0, 0, 1, 1] : Fin 16 → Fin 3)
          ⟨(n.val - 1) / 8 % 16, Nat.mod_lt _ (by decide)⟩,
        ((![0, 2, 0, 2, 1, 1, 3, 3, 6, 7, 6, 7, 4, 5, 4, 5] : Fin 16 → Fin 8)
          ⟨(n.val - 1) / 8 % 16, Nat.mod_lt _ (by decide)⟩,
        ⟨(n.val - 1) % 8, Nat.mod_lt _ (by decide)⟩))))
    else if n.val = 129 then some (some none)
    else if n.val < 138 then some (some (some (2, (0, ⟨(n.val - 130) % 8, Nat.mod_lt _ (by decide)⟩))))
    else if n.val < 154 then
      some (some (some (2, (if n.val % 2 = 0 then 1 else 2, ⟨(n.val - 138) / 2 % 8, Nat.mod_lt _ (by decide)⟩))))
    else some (some (some (2, (⟨((n.val - 154) / 8 + 3) % 8, Nat.mod_lt _ (by decide)⟩,
      ⟨(n.val - 154) % 8, Nat.mod_lt _ (by decide)⟩))))

theorem dec_S : ∀ t : T, dec (.dma (sS t)) = some (cS t) := by decide +kernel
theorem dec_R : ∀ t : T, dec (.dma (rS t)) = some (cR t) := by decide +kernel
theorem dec_W : ∀ t : T, dec (.dma (wS t)) = some (cW t) := by decide +kernel
theorem dec_B : dec (.reg barS) = some cB := rfl
theorem dec_L : dec (.dma (dsem 129)) = some cL := rfl

theorem dec_csem : ∀ k : Ck, dec (csem k) = some k
  | none => dec_B
  | some none => dec_L
  | some (some (0, t)) => dec_S t
  | some (some (1, t)) => dec_R t
  | some (some (2, t)) => dec_W t

theorem csem_inj : Function.Injective csem := fun a b h =>
  Option.some.inj ((dec_csem a).symm.trans ((congrArg dec h).trans (dec_csem b)))

/-- A device's cell. -/
abbrev kcell (ck : Dev nD × Ck) : GSem nD τ sig := ((ck.1 : Thread nD τ), csem ck.2)

theorem kcell_inj : Function.Injective kcell := fun a b h => by
  have h1 : a.1 = b.1 := congrArg (fun g : GSem nD τ sig => g.1.1) h
  have h2 : csem a.2 = csem b.2 := congrArg Prod.snd h
  exact Prod.ext h1 (csem_inj h2)

/-! ## What is held -/

/-- A chunk of the receive buffer. -/
def wP (c : Dev nD) (j : Fin 64) (q : PosShare TreeShare) (f : S2048x2048.Idx → Elt F .f32) : sProp 𝕄 :=
  ((c : Thread nD τ).loc cc0_scratch0) ↦[kset j]{q} f
/-- A chunk of the kept rows. -/
def kP (c : Dev nD) (j : Fin 64) (f : S2048x2048.Idx → Elt F .f32) : sProp 𝕄 :=
  ((c : Thread nD τ).loc cc0_scratch1) ↦[kset j]{fullShare} f
/-- A chunk of the result. -/
def oP (c : Dev nD) (j : Fin 64) (f : S2048x2048.Idx → Elt F .f32) : sProp 𝕄 :=
  ((c : Thread nD τ).loc main_v1) ↦[kset j]{fullShare} f
/-- A chunk of the rows sent along the second axis. -/
def aP (c : Dev nD) (j : Fin 64) : sProp 𝕄 :=
  ((c : Thread nD τ).loc main_arg0) ↦[(aM' c j).view.set]{fullShare.right} arg0 m c
/-- The rows of the local copy. -/
def hP (c : Dev nD) : sProp 𝕄 :=
  ((c : Thread nD τ).loc main_arg0) ↦[(hM c).view.set]{fullShare.left} arg0 m c
/-- The whole of the kept rows. -/
def kW (c : Dev nD) (f : S2048x2048.Idx → Elt F .f32) : sProp 𝕄 :=
  ((c : Thread nD τ).loc cc0_scratch1) ↦{fullShare} f

instance (c : Dev nD) (j : Fin 64) (q) (f) : BI.Storable (upEmb : UEmb _ 𝕄) (wP (F := F) c j q f) := by unfold wP; infer_instance
instance (c : Dev nD) (j : Fin 64) (f) : BI.Storable (upEmb : UEmb _ 𝕄) (kP (F := F) c j f) := by unfold kP; infer_instance
instance (c : Dev nD) (j : Fin 64) (f) : BI.Storable (upEmb : UEmb _ 𝕄) (oP (F := F) c j f) := by unfold oP; infer_instance
instance (c : Dev nD) (j : Fin 64) : BI.Storable (upEmb : UEmb _ 𝕄) (aP (F := F) m c j) := by unfold aP; infer_instance
instance (c : Dev nD) : BI.Storable (upEmb : UEmb _ 𝕄) (hP (F := F) m c) := by unfold hP; infer_instance
instance (c : Dev nD) (f) : BI.Storable (upEmb : UEmb _ 𝕄) (kW (F := F) c f) := by unfold kW; infer_instance

/-- The share of the source chunk that the copy to a block takes. -/
def sq (t : T) : PosShare TreeShare :=
  ![fullShare, fullShare.left, fullShare, fullShare.left, fullShare.right.left, fullShare.left,
    fullShare.right.left, fullShare.left] t.1
/-- The share of a block's chunk that is left after its forwardings. -/
def rq (t : T) : PosShare TreeShare :=
  ![fullShare.right.right, fullShare.right, fullShare.right.right, fullShare.right, fullShare, fullShare,
    fullShare, fullShare] t.1

/-- The forwardings of a list take the left halves of a share one after the other. -/
def ShOk (κ : PosShare TreeShare) : PosShare TreeShare → List T → Prop
  | q, [] => q = κ
  | q, t :: l => sq t = q.left ∧ ShOk κ q.right l

theorem shOk (t : T) : ShOk (rq t) fullShare (outs t) :=
  forall_T (P := fun t => ShOk (rq t) fullShare (outs t))
    (fun _ => ⟨rfl, rfl, rfl⟩) (fun _ => ⟨rfl, rfl⟩) (fun _ => ⟨rfl, rfl, rfl⟩) (fun _ => ⟨rfl, rfl⟩)
    (fun _ => rfl) (fun _ => rfl) (fun _ => rfl) (fun _ => rfl) t

/-- The places that a neighbour's block copies to, handed over by it at the meeting. -/
def slot (c : Dev nD) (d : Fin 3) (t : T) : sProp 𝕄 :=
  if dirT t = d then iprop(∃ f, wP (F := F) (pe d c) (ch (pe d c) t) fullShare f) else iprop(emp)

instance (c : Dev nD) (d : Fin 3) (t : T) : BI.Storable (upEmb : UEmb _ 𝕄) (slot (F := F) c d t) := by
  unfold slot; split <;> infer_instance

/-- What a copy's source cell hands back. -/
def sndPay (c : Dev nD) (t : T) : sProp 𝕄 :=
  if dirT t = 0 then aP m c (ch c t) else wP c (ch c (srcT t)) (sq t) (Wc m c)

instance (c : Dev nD) (t : T) : BI.Storable (upEmb : UEmb _ 𝕄) (sndPay (F := F) m c t) := by
  unfold sndPay; split <;> infer_instance

/-- The scale row of a device, as the launch stages it. -/
def gst (c : Dev nD) : Vec F S2048 .f32 :=
  (win0_0.blk (0 : Fin 1)).view.read (Elt F) (m ((c : Thread nD τ).loc main_arg1))

/-- What a write-back's cell hands over. -/
def wbPay (c : Dev nD) (t : T) : sProp 𝕄 :=
  iprop(oP c (ch c t) (OUT m (gst m c) c) ∗ ∃ f, kP (F := F) c (ch c t) f)

instance (c : Dev nD) (t : T) : BI.Storable (upEmb : UEmb _ 𝕄) (wbPay (F := F) m c t) := by
  unfold wbPay; infer_instance

/-- What a cell hands over. -/
def pay (c : Dev nD) (d : Fin 3) : Option Ck → sProp 𝕄
  | none => iprop(emp)
  | some none => bigSep Finset.univ fun t : T => slot (F := F) c d t
  | some (some none) => iprop(kW c (keepc m c) ∗ hP m c)
  | some (some (some (0, t))) => sndPay m c t
  | some (some (some (1, t))) => wP c (ch c t) fullShare (Wc m c)
  | some (some (some (2, t))) => wbPay m c t

instance pay_storable (c : Dev nD) (d : Fin 3) (k : Option Ck) : BI.Storable (upEmb : UEmb _ 𝕄) (pay (F := F) m c d k) := by
  unfold pay; split <;> infer_instance

/-- How many units a cell's duty pays. -/
def amt : Option Ck → ℕ
  | none => N
  | some none => 1
  | some (some none) => NL
  | some (some (some (0, _))) => N
  | some (some (some (1, _))) => N
  | some (some (some (2, _))) => NO

theorem amt_pos (k : Option Ck) : 0 < amt k := by
  unfold amt; split
  · exact N_pos
  · exact Nat.one_pos
  · exact NL_pos
  · exact N_pos
  · exact N_pos
  · exact NO_pos

/-- A cell's duties: three at a meeting, one at a copy. -/
def dut : Option Ck → Finset (Fin 3)
  | none => ∅
  | some none => Finset.univ
  | some (some _) => {0}

/-- One round. -/
def Rd : Rounds.Schedule (GSem nD τ sig) (Fin 3) 𝕄 where
  duties g r := if r = 0 ∧ g.1.2 = .tc then dut (dec g.2) else ∅
  unitless _ := False
  amount g _ _ := amt (dec g.2)
  payload g _ d := pay m g.1.1 d (dec g.2)
  amount_pos g _ _ _ := amt_pos _

instance Rd_storable (g : GSem nD τ sig) (r : ℕ) (d : Fin 3) :
    BI.Storable (upEmb : UEmb _ 𝕄) ((Rd (F := F) m).payload g r d) := pay_storable m _ d _

theorem duties_at (c : Dev nD) (sm : SemLoc sig) {k : Ck} (h : dec sm = some k) :
    (Rd (F := F) m).duties ((c : Thread nD τ), sm) 0 = dut (some k) := by
  dsimp only [Rd]; rw [if_pos ⟨rfl, rfl⟩, h]
theorem duties_later (g : GSem nD τ sig) : ∀ r, 1 ≤ r → (Rd (F := F) m).duties g r = ∅ :=
  fun r hr => by dsimp only [Rd]; rw [if_neg fun h => by omega]
theorem amount_at (c : Dev nD) (sm : SemLoc sig) {k : Ck} (h : dec sm = some k) (d : Fin 3) :
    (Rd (F := F) m).amount ((c : Thread nD τ), sm) 0 d = amt (some k) := by dsimp only [Rd]; rw [h]
theorem amount_S (c : Dev nD) (t : T) (d : Fin 3) :
    (Rd (F := F) m).amount ((c : Thread nD τ), .dma (sS t)) 0 d = N := amount_at m c _ (dec_S t) d
theorem amount_R (c : Dev nD) (t : T) (d : Fin 3) :
    (Rd (F := F) m).amount ((c : Thread nD τ), .dma (rS t)) 0 d = N := amount_at m c _ (dec_R t) d
theorem amount_W (c : Dev nD) (t : T) (d : Fin 3) :
    (Rd (F := F) m).amount ((c : Thread nD τ), .dma (wS t)) 0 d = NO := amount_at m c _ (dec_W t) d
theorem payload_at (c : Dev nD) (sm : SemLoc sig) {k : Ck} (h : dec sm = some k) (d : Fin 3) :
    (Rd (F := F) m).payload ((c : Thread nD τ), sm) 0 d = pay m c d (some k) := by dsimp only [Rd]; rw [h]
theorem expect_at (c : Dev nD) (sm : SemLoc sig) {k : Option (Fin 3 × T)} (h : dec sm = some (some k)) :
    (Rd (F := F) m).expect ((c : Thread nD τ), sm) 0 = amt (some (some k)) := by
  unfold Schedule.expect Schedule.amountOf
  rw [duties_at m c sm h]
  show ∑ d ∈ ({0} : Finset (Fin 3)), _ = _
  rw [Finset.sum_singleton, amount_at m c sm h]
theorem expect_bar (c : Dev nD) : (Rd (F := F) m).expect ((c : Thread nD τ), .reg barS) 0 = 3 := by
  unfold Schedule.expect Schedule.amountOf
  rw [duties_at m c _ dec_B, Finset.sum_congr rfl fun d _ => amount_at m c _ dec_B d]
  rfl
theorem mem_duties (c : Dev nD) (sm : SemLoc sig) {k : Option (Fin 3 × T)} (h : dec sm = some (some k)) :
    (0 : Fin 3) ∈ (Rd (F := F) m).duties ((c : Thread nD τ), sm) 0 := by
  rw [duties_at m c sm h]; exact Finset.mem_singleton_self _
theorem rest_at (c : Dev nD) (sm : SemLoc sig) {k : Option (Fin 3 × T)} (h : dec sm = some (some k)) :
    bigSep ((Rd (F := F) m).duties ((c : Thread nD τ), sm) 0 \ ∅)
      (fun d => (Rd (F := F) m).payload ((c : Thread nD τ), sm) 0 d) = pay m c 0 (some (some k)) := by
  rw [Finset.sdiff_empty, duties_at m c sm h]
  show bigSep ({0} : Finset (Fin 3)) _ = _
  rw [bigSep_singleton, payload_at m c sm h]
theorem rest_bar (c : Dev nD) :
    bigSep ((Rd (F := F) m).duties ((c : Thread nD τ), .reg barS) 0 \ ∅)
      (fun d => (Rd (F := F) m).payload ((c : Thread nD τ), .reg barS) 0 d)
      = bigSep Finset.univ fun d => bigSep Finset.univ fun t : T => slot (F := F) c d t := by
  rw [Finset.sdiff_empty, duties_at m c _ dec_B]
  rfl

/-! ## What is owed, and the levels -/

/-- The sixteen blocks whose chunks come along the second axis, in the order of their sends. -/
def yOrd : List T := l8.map (fun k => (0, k)) ++ l8.map (fun k => (2, k))
/-- The blocks in the order in which a device sends to them. -/
def sOrd : List T := yOrd ++ order.flatMap outs

/-- The neighbour's receive cell for a block. -/
abbrev rcell (c : Dev nD) (t : T) : GSem nD τ sig := ((pe (dirT t) c : Thread nD τ), .dma (rS t))
/-- A device's meeting cell. -/
abbrev bcell (c : Dev nD) : GSem nD τ sig := ((c : Thread nD τ), .reg barS)

/-- What a device owes that still has to send to the blocks of a list. -/
def Os (c : Dev nD) : List T → CellTallies nD τ sig Unit
  | [] => 0
  | t :: l => Os c l + tallyAt (rcell c t) () N

/-- What a device owes at the launch: every send, and a unit to each neighbour's meeting. -/
def O₀ (c : Dev nD) : CellTallies nD τ sig Unit :=
  Os c sOrd + tallyAt (bcell (pe 2 c)) () 1 + tallyAt (bcell (pe 1 c)) () 1 + tallyAt (bcell (pe 0 c)) () 1

def L (g : GSem nD τ sig) : Finset Unit := if g.1.2 = .tc then {()} else ∅

/-- The level of a block's receive cell. -/
def lvT (t : T) : ℕ := ![2, 3, 2, 4, 5, 5, 5, 5] t.1
def lvK : Option Ck → ℕ
  | some none => 1
  | some (some (some (1, t))) => lvT t
  | _ => 0
/-- The level of a cell. -/
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl

theorem Os_pos {c : Dev nD} {l : List T} {g : GSem nD τ sig} {u : Unit} (h : 0 < Os c l g u) :
    ∃ t ∈ l, g = rcell c t := by
  induction l with
  | nil => exact absurd h (Nat.lt_irrefl 0)
  | cons t l ih =>
    unfold Os at h
    rw [Pi.add_apply, Finsupp.add_apply, tallyAt_apply] at h
    by_cases h' : g = rcell c t ∧ u = ()
    · exact ⟨t, List.mem_cons_self, h'.1⟩
    · rw [if_neg h', Nat.add_zero] at h
      obtain ⟨t', ht', hg⟩ := ih h
      exact ⟨t', List.mem_cons_of_mem _ ht', hg⟩

theorem O₀_pos {c : Dev nD} {g : GSem nD τ sig} {u : Unit} (h : 0 < O₀ c g u) :
    (∃ t, g = rcell c t) ∨ ∃ d, g = bcell (pe d c) := by
  unfold O₀ at h
  rw [Pi.add_apply, Finsupp.add_apply, Pi.add_apply, Finsupp.add_apply, Pi.add_apply, Finsupp.add_apply,
    tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨t, -, ht⟩ := Os_pos (c := c) (l := sOrd) (g := g) (u := u) h
  exact hn.1 t ht

theorem lv_rcell (c : Dev nD) (t : T) (u : Unit) : lv (rcell c t) u = lvT t := by
  unfold lv; dsimp only; rw [dec_R]; rfl

/-- A wait on a cell below everything still to be sent is allowed. -/
theorem mayWait_Os (c : Dev nD) (sm : SemLoc sig) (l : List T)
    (h : ∀ t ∈ l, lvK (dec sm) < lvT t) :
    (levAts L lv : sProp 𝕄) ⊢ MayWait (c : Thread nD τ) sm () (Os c l) :=
  MayOwe.of_cut (L := L) (lev := lv) (lvK (dec sm))
    (fun p hp => by rw [Finset.mem_singleton.mp hp, L_tc]; exact Finset.mem_singleton_self _)
    (fun g u hg => by obtain ⟨t, -, rfl⟩ := Os_pos hg; exact Finset.mem_singleton_self _)
    (fun p hp => by rw [Finset.mem_singleton.mp hp]; exact le_refl _)
    (fun g u hg => by obtain ⟨t, ht, rfl⟩ := Os_pos hg; rw [lv_rcell]; exact h t ht)

theorem lvT_pos : ∀ t : T, 0 < lvT t := by decide +kernel

/-- The wait on the staging semaphore is allowed. -/
theorem mayWait_stage (c : Dev nD) (q : DmaSem sig) (hq : dec (.dma q) = none) (O : CellTallies nD τ sig Unit)
    (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; unfold lv; dsimp only; rw [hq]; exact le_refl _)
      (fun g u hg => by
        rcases O₀_pos hg with ⟨t, rfl⟩ | ⟨d, rfl⟩
        · rw [lv_rcell]; exact lvT_pos t
        · exact Nat.one_pos)
  · rw [MayWait_zero]; iintro -; iempintro

/-- The blocks' order respects the levels: a block waits below all that it and the later ones send to. -/
def OkOrd : List T → Prop
  | [] => True
  | t :: l => (∀ u ∈ (t :: l).flatMap outs, lvT t < lvT u) ∧ OkOrd l

instance : ∀ l, Decidable (OkOrd l)
  | [] => inferInstanceAs (Decidable True)
  | t :: l =>
    have := instDecidableOkOrd l
    inferInstanceAs (Decidable (_ ∧ _))

end Cert.KernelIdeal.Own

end
-- ==== Proof.Step.lean ====
module

public import proofs.«01_k».proof.Proof.Sched
public import Idealize.ShloMosaic.Lib.Pipeline.BigSepL

/-! The steps of the body: a wait on a cell of one duty, a send, a block, and lists of them. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No variants. -/
abbrev 𝒱₀ : Variants := Variants.none
/-- The continuation's condition of a body step on a device. -/
abbrev wpc (c : Dev nD) (k : Pr F) (Q : PUnit → sProp 𝕄) : sProp 𝕄 :=
  wp frame (wpE (defs₀ (F := F)) 𝒱₀ (c : Thread nD τ) none) Set.univ k Q

variable (m : (ℓ : Loc nD τ sig) → Buf (Elt F) ℓ) (K : Dev nD × Ck → ℕ)

/-! ## What every device knows -/

/-- Every cell's protocol is in force, and every cell has reached its round. -/
def recs : sProp 𝕄 :=
  iprop((bigSep Finset.univ fun ck : Dev nD × Ck => cellInv ER (Rd m) (K ck) (kcell ck))
    ∗ bigSep Finset.univ fun ck : Dev nD × Ck => reached ER (kcell ck) 0)

instance recs_persistent : BI.Persistent (recs (F := F) m K) := by unfold recs; infer_instance

theorem inv_at (c : Dev nD) (k : Ck) : recs (F := F) m K ⊢ cellInv ER (Rd m) (K (c, k)) (kcell (c, k)) := by
  unfold recs
  exact sep_elim_left.trans (bigSep_elim (Finset.mem_univ (c, k)))
theorem reached_at (c : Dev nD) (k : Ck) : recs (F := F) m K ⊢ (reached ER (kcell (c, k)) 0 : sProp 𝕄) := by
  unfold recs
  exact sep_elim_right.trans (bigSep_elim (Finset.mem_univ (c, k)))

/-- The device owes the sends of a list. -/
def owe (c : Dev nD) (l : List T) : sProp 𝕄 := iprop(∃ W, owes (c : Thread nD τ) (Os c l) W)

/-- A cell at its first round, nothing taken. -/
abbrev at0 (c : Dev nD) (k : Ck) : sProp 𝕄 := atPos ER (kcell (c, k)) 0 ∅ 0
/-- A cell's counter at zero. -/
abbrev z0 (c : Dev nD) (k : Ck) : sProp 𝕄 := semVal (kcell (c, k)) 0
/-- The credit of a cell's one duty. -/
abbrev cr (c : Dev nD) (k : Ck) : sProp 𝕄 := cred (tallyAt (kcell (c, k)) () (amt (some k)))
/-- The token of a cell's one duty. -/
abbrev tk (c : Dev nD) (k : Ck) : sProp 𝕄 := dutyTok ER (kcell (c, k)) 0 (0 : Fin 3)

/-- The wait on a cell of one duty hands over what the cell holds, and closes the cell. -/
theorem wp_cell (c : Dev nD) (k : Option (Fin 3 × T)) (e : Eff F PUnit)
    (hw : ∀ X : PUnit → sProp 𝕄, wpE (defs₀ (F := F)) 𝒱₀ (c : Thread nD τ) none Set.univ e X
      = waitSpec (c : Thread nD τ) Set.univ (csem (some k)) (amt (some (some k))) X)
    (l : List T) (hl : ∀ t ∈ l, lvK (some (some k)) < lvT t) (p : Pr F) (Q : PUnit → sProp 𝕄) :
    iprop((recs m K ∗ levAts L lv) ∗ (at0 c (some k) ∗ cr c (some k)) ∗ owe c l)
      ⊢ iprop(((pay m c 0 (some (some k)) ∗ z0 c (some k) ∗ owe c l) -∗ wpc c p Q)
          -∗ wpc c (.op e fun _ => p) Q) := by
  have hd : dec (csem (some k)) = some (some k) := dec_csem _
  iintro ⟨⟨#HR, #Hlev⟩, ⟨Hat, Hcr⟩, Ho⟩ Hk
  unfold owe
  icases Ho with ⟨%W, HO⟩
  iapply (Rounds.wp_wait_rest_token 𝒱₀ ER (Rd m) (c : Thread nD τ) none (κ := K (c, some k)) hw (Set.mem_univ _) ()
    (O := Os c l) (W := W) (R := 0) (m := 0) (T := ∅) (by rw [Nat.zero_add, expect_at m c _ hd])) $$ [Hat Hcr HO]
  · isplitr; · iapply (inv_at m K c (some k)); iexact HR
    isplitl [Hcr]; · iexact Hcr
    isplitl [HO]; · iexact HO
    isplitr
    · iapply (mayWait_Os c (csem (some k)) l (by rw [hd]; exact hl)); iexact Hlev
    iexact Hat
  iintro ⟨HO, Hat, -, Hpay⟩
  imod (Rounds.cell_close ER (Rd m) (Set.mem_univ (K (c, some k))) (fun h => h) (R := 0 + 1)
    (duties_later m (kcell (c, some k)))) $$ [Hat] with Hz
  · isplitr; · iapply (inv_at m K c (some k)); iexact HR
    iexact Hat
  iapply Hk
  isplitl [Hpay]; · iapply (Entails.of_eq (rest_at m c _ hd)); iexact Hpay
  isplitl [Hz]; · iexact Hz
  iexists _; iexact HO

/-- A list of operations, each of which makes one thing of another while keeping a third. -/
theorem wp_ops (c : Dev nD) (X : sProp 𝕄) [BI.Persistent X] (P R : T → sProp 𝕄) (I : sProp 𝕄) (f : T → Eff F PUnit)
    (h : ∀ t p Q, iprop(X ∗ P t ∗ I) ⊢ iprop(((R t ∗ I) -∗ wpc c p Q) -∗ wpc c (.op (f t) fun _ => p) Q))
    (l : List T) (p : Pr F) (Q : PUnit → sProp 𝕄) :
    iprop(X ∗ bigSepL l P ∗ I) ⊢ iprop(((bigSepL l R ∗ I) -∗ wpc c p Q) -∗ wpc c (ops (l.map f) p) Q) := by
  induction l with
  | nil =>
    iintro ⟨-, HP, HI⟩ Hk
    iapply Hk
    isplitl [HP]; · iexact HP
    iexact HI
  | cons t l ih =>
    rw [bigSepL_cons', bigSepL_cons']
    iintro ⟨#HX, ⟨HP, HPs⟩, HI⟩ Hk
    iapply (h t (ops (l.map f) p) Q) $$ [HP HI]
    · isplitr; · iexact HX
      isplitl [HP] <;> iassumption
    iintro ⟨HR, HI⟩
    iapply ih $$ [HPs HI]
    · isplitr; · iexact HX
      isplitl [HPs] <;> iassumption
    iintro ⟨HRs, HI⟩
    iapply Hk
    isplitl [HR HRs]
    · isplitl [HR] <;> iassumption
    iexact HI

/-! ## Sends -/

/-- What a send to a block needs of the receiver and of the protocol. -/
def snO (c : Dev nD) (t : T) : sProp 𝕄 :=
  iprop((∃ f, wP (pe (dirT t) c) (ch (pe (dirT t) c) t) fullShare f) ∗ tk c (cS t) ∗ tk (pe (dirT t) c) (cR t))

theorem amt_w (j : Fin 64) (s : DmaSem sig) : (cM wM j).view.amount (.dma s) = N := N_w _ _
theorem amt_o (j : Fin 64) (s : DmaSem sig) : (cM oM j).view.amount (.dma s) = NO := N_o _ _
theorem ld_w (j : Fin 64) : wM.view.setOn (rj j).set ⊆ kset j :=
  fun _ h => by rw [← set_w, show (cM wM j).view.set = _ from View.set_slice _ _]; exact h
theorem ld_k (j : Fin 64) : kM.view.setOn (rj j).set ⊆ kset j :=
  fun _ h => by rw [← set_k, show (cM kM j).view.set = _ from View.set_slice _ _]; exact h
theorem st_k (j : Fin 64) : (kM.access (rj j)).setOn Finset.univ ⊆ kset j := Finset.Subset.refl _

/-- A forwarding: the chunk goes to the neighbour at the share its cell keeps meanwhile. -/
theorem wp_fwd (c : Dev nD) (t : T) (hd : dirT t ≠ 0) (j : Fin 64) (hj : ch c (srcT t) = j) (l : List T)
    (h : Fit (ofs j)) (p : Pr F) (Q : PUnit → sProp 𝕄) :
    iprop(recs m K ∗ (wP c j (sq t) (Wc m c) ∗ snO c t) ∗ owe c (t :: l))
      ⊢ iprop(((cr c (cS t) ∗ owe c l) -∗ wpc c p Q) -∗ wpc c (sendW (ofs j) h (sndOf c t) p) Q) := by
  have hj' : ch (pe (dirT t) c) t = j := (ch_pe t c).trans hj
  unfold snO owe wP
  rw [hj']
  iintro ⟨#HR, ⟨Hsrc, ⟨%fd, Hdst⟩, Htk, Htk'⟩, ⟨%W, HO⟩⟩ Hk
  iapply (Rounds.wp_send_pointsTo 𝒱₀ ER (Rd m) (c : Thread nD τ) none (κ₁ := K (c, cS t)) (κ₂ := K (pe (dirT t) c, cR t))
    (c' := (pe (dirT t) c : Thread nD τ)) (r₁ := 0) (r₂ := 0) (d₁ := 0) (d₂ := 0) (src := cM wM j) (dst := cM wM j) (fd := fd)
    (mem_duties m c (.dma (sS t)) (dec_S t)) (mem_duties m (pe (dirT t) c) (.dma (rS t)) (dec_R t)) () () N (amt_w _ _)
    (amount_S m c t 0) (amount_R m (pe (dirT t) c) t 0) (Os c l) rfl (W := W)
    (by
      rw [payload_at m c (.dma (sS t)) (dec_S t)]
      show _ ⊢ sndPay m c t
      unfold sndPay
      rw [if_neg hd, hj]
      exact BI.Entails.refl _)
    (by
      rw [payload_at m (pe (dirT t) c) (.dma (rS t)) (dec_R t)]
      show _ ⊢ wP (pe (dirT t) c) (ch (pe (dirT t) c) t) fullShare (Wc m (pe (dirT t) c))
      rw [hj']
      exact Entails.of_eq (pointsTo_congr fun i hi => land_f m c (dirT t) hd j fd i hi))) $$ [Hsrc Hdst Htk Htk' HO]
  · isplitr; · iapply (inv_at m K c (cS t)); iexact HR
    isplitr; · iapply (inv_at m K (pe (dirT t) c) (cR t)); iexact HR
    isplitl [Hsrc]; · iexact Hsrc
    isplitl [Hdst]; · iexact Hdst
    isplitl [HO]; · iexact HO
    isplitl [Htk]; · iexact Htk
    isplitr; · iapply (reached_at m K c (cS t)); iexact HR
    isplitl [Htk']; · iexact Htk'
    iapply (reached_at m K (pe (dirT t) c) (cR t)); iexact HR
  iintro ⟨Hcr, HO⟩
  iapply Hk
  isplitl [Hcr]; · iexact Hcr
  iexists W; iexact HO

/-- A chunk's share is its halves. -/
theorem wP_share (c : Dev nD) (j : Fin 64) (q : PosShare TreeShare) (f : S2048x2048.Idx → Elt F .f32) :
    wP c j q f ⊢ iprop(wP c j q.left f ∗ wP c j q.right f) :=
  (pointsTo_share (PosShare.mem_left_op_right q)).1

/-- The forwardings of one chunk. -/
theorem wp_sends (c : Dev nD) (t : T) (h : Fit (ofs (ch c t))) (rest : List T) (κ : PosShare TreeShare) (l : List T)
    (hl : ∀ u ∈ l, srcT u = t ∧ dirT u ≠ 0) (q : PosShare TreeShare) (hq : ShOk κ q l) (p : Pr F)
    (Q : PUnit → sProp 𝕄) :
    iprop(recs m K ∗ (wP c (ch c t) q (Wc m c) ∗ bigSepL l (snO c)) ∗ owe c (l ++ rest))
      ⊢ iprop(((wP c (ch c t) κ (Wc m c) ∗ (bigSepL l fun u => cr c (cS u)) ∗ owe c rest) -∗ wpc c p Q)
          -∗ wpc c (sends (ofs (ch c t)) h (l.map (sndOf c)) p) Q) := by
  induction l generalizing q with
  | nil =>
    obtain rfl : q = κ := hq
    iintro ⟨-, ⟨Hw, He⟩, HO⟩ Hk
    iapply Hk
    isplitl [Hw]; · iexact Hw
    isplitl [He]; · iexact He
    iexact HO
  | cons u l ih =>
    obtain ⟨hq1, hq2⟩ := hq
    obtain ⟨hu1, hu2⟩ := hl u List.mem_cons_self
    rw [bigSepL_cons', bigSepL_cons']
    iintro ⟨#HR, ⟨Hw, ⟨Hu, Hus⟩⟩, HO⟩ Hk
    ihave Hw := (wP_share c (ch c t) q (Wc m c)) $$ Hw
    icases Hw with ⟨Hw1, Hw2⟩
    iapply (wp_fwd m K c u hu2 (ch c t) (by rw [hu1]) (l ++ rest) h _ Q) $$ [Hw1 Hu HO]
    · isplitr; · iexact HR
      isplitl [Hw1 Hu]
      · isplitl [Hw1]; · rw [hq1]; iexact Hw1
        iexact Hu
      iexact HO
    iintro ⟨Hcr, HO⟩
    iapply (ih (fun v hv => hl v (List.mem_cons_of_mem _ hv)) q.right hq2) $$ [Hw2 Hus HO]
    · isplitr; · iexact HR
      isplitl [Hw2 Hus]
      · isplitl [Hw2]; · iexact Hw2
        iexact Hus
      iexact HO
    iintro ⟨Hw, Hcrs, HO⟩
    iapply Hk
    isplitl [Hw]; · iexact Hw
    isplitl [Hcr Hcrs]
    · isplitl [Hcr] <;> iassumption
    iexact HO

/-- The send to a block that comes along the second axis, as one operation. -/
abbrev yEff (c : Dev nD) (t : T) : Eff F PUnit :=
  sendA (aofs c (ch c t)) (aofs_fit c (ch c t)) (ofs (ch c t)) (ofs_fit (ch c t)) (sndOf c t)

/-- A send along the second axis. -/
theorem wp_ysend (c : Dev nD) (t : T) (hd : dirT t = 0) (l : List T) (p : Pr F) (Q : PUnit → sProp 𝕄) :
    iprop(recs m K ∗ (aP m c (ch c t) ∗ snO c t) ∗ owe c (t :: l))
      ⊢ iprop(((cr c (cS t) ∗ owe c l) -∗ wpc c p Q) -∗ wpc c (.op (yEff c t) fun _ => p) Q) := by
  have hs : ∀ (c : Dev nD) (t : T), dirT t = 0 → ch (pe 0 c) t = ch c t := by decide +kernel
  have hj : ch (pe (dirT t) c) t = ch c t := by rw [hd]; exact hs c t hd
  have hl := land_y m c t hd
  rw [hs c t hd] at hl
  unfold snO owe wP aP
  rw [hj]
  iintro ⟨#HR, ⟨Hsrc, ⟨%fd, Hdst⟩, Htk, Htk'⟩, ⟨%W, HO⟩⟩ Hk
  iapply (Rounds.wp_send_pointsTo 𝒱₀ ER (Rd m) (c : Thread nD τ) none (κ₁ := K (c, cS t)) (κ₂ := K (pe (dirT t) c, cR t))
    (c' := (pe (dirT t) c : Thread nD τ)) (r₁ := 0) (r₂ := 0) (d₁ := 0) (d₂ := 0) (src := aM' c (ch c t)) (dst := cM wM (ch c t)) (fd := fd)
    (mem_duties m c (.dma (sS t)) (dec_S t)) (mem_duties m (pe (dirT t) c) (.dma (rS t)) (dec_R t)) () () N (amt_w _ _)
    (amount_S m c t 0) (amount_R m (pe (dirT t) c) t 0) (Os c l) rfl (W := W)
    (by
      rw [payload_at m c (.dma (sS t)) (dec_S t)]
      show _ ⊢ sndPay m c t
      unfold sndPay aP
      rw [if_pos hd])
    (by
      rw [payload_at m (pe (dirT t) c) (.dma (rS t)) (dec_R t)]
      show _ ⊢ wP (pe (dirT t) c) (ch (pe (dirT t) c) t) fullShare (Wc m (pe (dirT t) c))
      rw [hj, hd]
      exact Entails.of_eq (pointsTo_congr fun i hi => hl fd i hi))) $$ [Hsrc Hdst Htk Htk' HO]
  · isplitr; · iapply (inv_at m K c (cS t)); iexact HR
    isplitr; · iapply (inv_at m K (pe (dirT t) c) (cR t)); iexact HR
    isplitl [Hsrc]; · iexact Hsrc
    isplitl [Hdst]; · iexact Hdst
    isplitl [HO]; · iexact HO
    isplitl [Htk]; · iexact Htk
    isplitr; · iapply (reached_at m K c (cS t)); iexact HR
    isplitl [Htk']; · iexact Htk'
    iapply (reached_at m K (pe (dirT t) c) (cR t)); iexact HR
  iintro ⟨Hcr, HO⟩
  iapply Hk
  isplitl [Hcr]; · iexact Hcr
  iexists W; iexact HO

/-- The sends along the second axis, one after the other. -/
theorem wp_ysends (c : Dev nD) (rest : List T) (l : List T) (hl : ∀ t ∈ l, dirT t = 0) (p : Pr F)
    (Q : PUnit → sProp 𝕄) :
    iprop(recs m K ∗ (bigSepL l fun t => iprop(aP m c (ch c t) ∗ snO c t)) ∗ owe c (l ++ rest))
      ⊢ iprop((((bigSepL l fun t => cr c (cS t)) ∗ owe c rest) -∗ wpc c p Q)
          -∗ wpc c (ops (l.map (yEff c)) p) Q) := by
  induction l with
  | nil =>
    iintro ⟨-, He, HO⟩ Hk
    iapply Hk
    isplitl [He]; · iexact He
    iexact HO
  | cons t l ih =>
    rw [bigSepL_cons', bigSepL_cons']
    iintro ⟨#HR, ⟨Hu, Hus⟩, HO⟩ Hk
    iapply (wp_ysend m K c t (hl t List.mem_cons_self) (l ++ rest) _ Q) $$ [Hu HO]
    · isplitr; · iexact HR
      isplitl [Hu]; · iexact Hu
      iexact HO
    iintro ⟨Hcr, HO⟩
    iapply (ih fun v hv => hl v (List.mem_cons_of_mem _ hv)) $$ [Hus HO]
    · isplitr; · iexact HR
      isplitl [Hus] <;> iassumption
    iintro ⟨Hcrs, HO⟩
    iapply Hk
    isplitl [Hcr Hcrs]
    · isplitl [Hcr] <;> iassumption
    iexact HO

/-! ## Blocks -/

/-- What a block needs. -/
def bPre (c : Dev nD) (t : T) : sProp 𝕄 :=
  iprop((at0 c (cR t) ∗ cr c (cR t)) ∗ (kP c (ch c t) (keepc m c) ∗ (∃ f, oP c (ch c t) f) ∗ tk c (cW t))
    ∗ bigSepL (outs t) (snO c))

/-- What a block leaves. -/
def bPost (c : Dev nD) (t : T) : sProp 𝕄 :=
  iprop(z0 c (cR t) ∗ cr c (cW t) ∗ wP c (ch c t) (rq t) (Wc m c) ∗ bigSepL (outs t) fun u => cr c (cS u))

/-- The block's wait is on its receive cell. -/
theorem blk_w (c : Dev nD) (t : T) (X : PUnit → sProp 𝕄) :
    wpE (defs₀ (F := F)) 𝒱₀ (c : Thread nD τ) none Set.univ (blkAt (F := F) c t).w X
      = waitSpec (c : Thread nD τ) Set.univ (csem (cR t)) (amt (some (cR t))) X :=
  Eq.trans (forall_T (P := fun t => wpE (defs₀ (F := F)) 𝒱₀ (c : Thread nD τ) none Set.univ (blkAt (F := F) c t).w X
      = waitSpec (c : Thread nD τ) Set.univ (.dma (rS t)) (cM wM 0).view.dmaCredit X)
    (fun _ => rfl) (fun _ => rfl) (fun _ => rfl) (fun _ => rfl) (fun _ => rfl) (fun _ => rfl)
    (fun _ => rfl) (fun _ => rfl) t) (by rw [← N_eq]; rfl)

/-- The normalisation of one chunk and its copy to the result. -/
theorem wp_norm (c : Dev nD) (t : T) (q : PosShare TreeShare) (h hL : Fit (ofs (ch c t))) (p : Pr F)
    (Q : PUnit → sProp 𝕄) :
    iprop(recs m K ∗ wP c (ch c t) q (Wc m c) ∗ kP c (ch c t) (keepc m c) ∗ (∃ f, oP (F := F) c (ch c t) f) ∗ tk c (cW t))
      ⊢ iprop(((cr c (cW t) ∗ wP c (ch c t) q (Wc m c)) -∗ wpc c p Q)
          -∗ wpc c (normP (ofs (ch c t)) h (ofs (ch c t)) hL (wS t) (gam (gst m c)) p) Q) := by
  unfold wP kP oP
  iintro ⟨#HR, Hw, Hk, ⟨%fo, Ho⟩, Htk⟩ Hc
  iapply (wp_load 𝒱₀ (c : Thread nD τ) none Set.univ (m := wM) (S := kset (ch c t)) (ld_w (ch c t))) $$ Hw
  iintro Hw
  iapply (wp_load 𝒱₀ (c : Thread nD τ) none Set.univ (m := kM) (S := kset (ch c t)) (ld_k (ch c t))) $$ Hk
  iintro Hk
  iapply (wp_load 𝒱₀ (c : Thread nD τ) none Set.univ (m := kM) (S := kset (ch c t)) (ld_k (ch c t))) $$ Hk
  iintro Hk
  iapply (wp_store 𝒱₀ (c : Thread nD τ) none Set.univ (m := kM) (r := rj (ch c t)) (Mk := Finset.univ)
    (S := kset (ch c t)) (st_k (ch c t))) $$ Hk
  iintro Hk
  iapply (Rounds.wp_copy_pointsTo 𝒱₀ ER (Rd m) (c : Thread nD τ) none (κ := K (c, cW t)) (r := 0) (d := 0) (q := fullShare)
    (src := cM kM (ch c t)) (dst := cM oM (ch c t))
    (mem_duties m c (.dma (wS t)) (dec_W t)) () NO (amt_o _ _) (amount_W m c t 0)
    (by
      rw [payload_at m c (.dma (wS t)) (dec_W t)]
      show _ ⊢ wbPay m c t
      unfold wbPay oP kP
      refine BIClass.sep_mono (Entails.of_eq (pointsTo_congr fun i hi => land_o m (gst m c) c (ch c t) (keepc m c) fo i hi)) ?_
      iintro H
      iexists _
      iexact H)) $$ [Hk Ho Htk]
  · isplitr; · iapply (inv_at m K c (cW t)); iexact HR
    isplitl [Hk]; · iexact Hk
    isplitl [Ho]; · iexact Ho
    isplitl [Htk]; · iexact Htk
    iapply (reached_at m K c (cW t)); iexact HR
  iintro Hcr
  iapply Hc
  isplitl [Hcr]; · iexact Hcr
  iexact Hw

/-- One block. -/
theorem wp_blk (c : Dev nD) (t : T) (rest : List T) (hlv : ∀ u ∈ outs t ++ rest, lvT t < lvT u) (p : Pr F)
    (Q : PUnit → sProp 𝕄) :
    iprop((recs m K ∗ levAts L lv) ∗ bPre m c t ∗ owe c (outs t ++ rest))
      ⊢ iprop(((bPost m c t ∗ owe c rest) -∗ wpc c p Q) -∗ wpc c (blkP (gam (gst m c)) (blkAt c t) p) Q) := by
  have ho := blk_o (F := F) c t
  have hoL := blk_oL (F := F) c t
  have hs := blk_snd (F := F) c t
  have hb := blk_wb (F := F) c t
  have hw := blk_w (F := F) c t
  generalize blkAt (F := F) c t = b at ho hoL hs hb hw ⊢
  obtain ⟨w, o, h, oL, hL, snd, wb⟩ := b
  dsimp only at ho hoL hs hb hw
  subst ho hoL hs hb
  unfold bPre bPost
  iintro ⟨⟨#HR, #Hlev⟩, ⟨Hrc, ⟨Hk, Ho, Htk⟩, Hsn⟩, HO⟩ Hc
  iapply (wp_cell m K c (some (1, t)) w hw (outs t ++ rest) hlv _ Q) $$ [Hrc HO]
  · isplitr
    · isplitr <;> iassumption
    isplitl [Hrc] <;> iassumption
  rw [show pay m c 0 (some (some (some (1, t)))) = wP c (ch c t) fullShare (Wc m c) from rfl]
  iintro ⟨Hw, Hz, HO⟩
  iapply (wp_sends m K c t h rest (rq t) (outs t) (outs_src t) fullShare (shOk t) _ Q) $$ [Hw Hsn HO]
  · isplitr; · iexact HR
    isplitl [Hw Hsn]
    · isplitl [Hw]; · iexact Hw
      iexact Hsn
    iexact HO
  iintro ⟨Hw, Hcrs, HO⟩
  iapply (wp_norm m K c t (rq t) h hL p Q) $$ [Hw Hk Ho Htk]
  · isplitr; · iexact HR
    isplitl [Hw]; · iexact Hw
    isplitl [Hk]; · iexact Hk
    isplitl [Ho] <;> iassumption
  iintro ⟨Hcr, Hw⟩
  iapply Hc
  isplitr [HO]
  · isplitl [Hz]; · iexact Hz
    isplitl [Hcr]; · iexact Hcr
    isplitl [Hw] <;> iassumption
  iexact HO

/-- A list of blocks. -/
theorem wp_blks (c : Dev nD) (l : List T) (hl : OkOrd l) (p : Pr F) (Q : PUnit → sProp 𝕄) :
    iprop((recs m K ∗ levAts L lv) ∗ bigSepL l (bPre m c) ∗ owe c (l.flatMap outs))
      ⊢ iprop(((bigSepL l (bPost m c) ∗ owe c []) -∗ wpc c p Q)
          -∗ wpc c (blks (gam (gst m c)) (l.map (blkAt c)) p) Q) := by
  induction l with
  | nil =>
    iintro ⟨-, He, HO⟩ Hk
    iapply Hk
    isplitl [He]; · iexact He
    iexact HO
  | cons t l ih =>
    rw [bigSepL_cons', bigSepL_cons', List.flatMap_cons]
    iintro ⟨#HR, ⟨Hu, Hus⟩, HO⟩ Hk
    iapply (wp_blk m K c t (l.flatMap outs) (by have := hl.1; rwa [List.flatMap_cons] at this) _ Q) $$ [Hu HO]
    · isplitr; · iexact HR
      isplitl [Hu] <;> iassumption
    iintro ⟨Hp, HO⟩
    iapply (ih hl.2) $$ [Hus HO]
    · isplitr; · iexact HR
      isplitl [Hus] <;> iassumption
    iintro ⟨Hps, HO⟩
    iapply Hk
    isplitl [Hp Hps]
    · isplitl [Hp] <;> iassumption
    iexact HO

end Cert.KernelIdeal.Own

end
-- ==== Proof.Res.lean ====
module

public import proofs.«01_k».proof.Proof.Step
public import Idealize.ShloMosaic.Lib.Ring

/-! What the body holds, cut into the blocks' parts and put together again. -/

@[expose] public section

noncomputable section

namespace Cert.KernelIdeal.Own

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## Families and lists -/

/-- A family over an option type. -/
theorem bigSep_opt {I : Type} [Fintype I] [DecidableEq I] (Φ : Option I → sProp 𝕄) :
    bigSep Finset.univ Φ = iprop(Φ none ∗ bigSep Finset.univ fun i => Φ (some i)) := by
  rw [bigSep_univ_at Φ none]
  have : (Finset.univ.erase (none : Option I)) = Finset.univ.map Function.Embedding.some := by
    ext x; cases x <;> simp
  rw [this, bigSep_map]
  rfl

theorem bigSep_three (Φ : Fin 3 → sProp 𝕄) : bigSep Finset.univ Φ = iprop(Φ 0 ∗ Φ 1 ∗ Φ 2) :=
  bigSep_univ_eq_bigSepL [0, 1, 2] (by decide) (by decide) Φ

/-- A family over a device's cells, by kind. -/
theorem bigSep_cells (Φ : Ck → sProp 𝕄) :
    bigSep Finset.univ Φ = iprop(Φ cB ∗ Φ cL ∗ (bigSep Finset.univ fun t => Φ (cS t))
      ∗ (bigSep Finset.univ fun t => Φ (cR t)) ∗ bigSep Finset.univ fun t => Φ (cW t)) := by
  rw [bigSep_opt Φ, bigSep_opt (fun i => Φ (some i)), bigSep_univ_prod, bigSep_three]

/-- A list's family with each member a list's family. -/
theorem bigSepL_flatMap (f : T → List T) (l : List T) (Φ : T → sProp 𝕄) :
    bigSepL (l.flatMap f) Φ = bigSepL l fun t => bigSepL (f t) Φ := by
  induction l with
  | nil => rfl
  | cons t l ih => rw [List.flatMap_cons, bigSepL_append, bigSepL_cons', ih]

theorem bigSepL_sep (l : List T) (Φ Ψ : T → sProp 𝕄) :
    bigSepL l (fun t => iprop(Φ t ∗ Ψ t)) = iprop(bigSepL l Φ ∗ bigSepL l Ψ) := by
  induction l with
  | nil => exact (equiv_iff.mp emp_sep).symm
  | cons t l ih =>
    rw [bigSepL_cons', bigSepL_cons', bigSepL_cons', ih]
    have h : iprop((Φ t ∗ Ψ t) ∗ bigSepL l Φ ∗ bigSepL l Ψ) ⊣⊢ iprop((Φ t ∗ bigSepL l Φ) ∗ Ψ t ∗ bigSepL l Ψ) := by
      constructor
      · iintro ⟨⟨H1, H2⟩, H3, H4⟩
        isplitl [H1 H3]
        · isplitl [H1] <;> iassumption
        · isplitl [H2] <;> iassumption
      · iintro ⟨⟨H1, H2⟩, H3, H4⟩
        isplitl [H1 H3]
        · isplitl [H1] <;> iassumption
        · isplitl [H2] <;> iassumption
    exact BI.Entails.antisymm h.1 h.2

theorem order_univ : (Finset.univ : Finset T) = order.toFinset := by decide +kernel
theorem order_nodup : order.Nodup := by decide +kernel
theorem sOrd_univ : (Finset.univ : Finset T) = sOrd.toFinset := by decide +kernel
theorem sOrd_nodup : sOrd.Nodup := by decide +kernel
theorem order_ok : OkOrd order := by decide +kernel
theorem yOrd_dir : ∀ t ∈ yOrd, dirT t = 0 := by decide +kernel

/-- A family over the blocks, in the blocks' order. -/
theorem bigSep_order (Φ : T → sProp 𝕄) : bigSep Finset.univ Φ = bigSepL order Φ :=
  bigSep_univ_eq_bigSepL order order_univ order_nodup Φ

/-- A family over the blocks, in the order of the sends to them. -/
theorem bigSep_sOrd (Φ : T → sProp 𝕄) :
    bigSep Finset.univ Φ = iprop(bigSepL yOrd Φ ∗ bigSepL order fun t => bigSepL (outs t) Φ) := by
  rw [bigSep_univ_eq_bigSepL sOrd sOrd_univ sOrd_nodup Φ, ← bigSepL_flatMap, ← bigSepL_append]
  rfl

/-- A family over the blocks, gathered by the direction each block comes from. -/
theorem fiber (Φ : Fin 3 → T → sProp 𝕄) :
    (bigSep Finset.univ fun d => bigSep Finset.univ fun t => if dirT t = d then Φ d t else iprop(emp))
      = bigSep Finset.univ fun t => Φ (dirT t) t := by
  rw [BI.bigSep_univ_comm]
  refine bigSep_congr fun t _ => ?_
  rw [bigSep_univ_at _ (dirT t), if_pos rfl,
    bigSep_congr (Ψ := fun _ => iprop(emp)) fun d hd => if_neg fun h => (Finset.mem_erase.1 hd).1 h.symm]
  have h : (bigSep (Finset.univ.erase (dirT t)) fun _ => (iprop(emp) : sProp 𝕄)) = iprop(emp) := bigSep_emp_const _
  rw [h]
  exact sep_emp.1.antisymm sep_emp.2

/-! ## The buffers -/

/-- A square buffer held whole is its chunks, one for each block. -/
theorem sq_blocks (c : Dev nD) (ℓ : Loc nD τ sig) (I : Fin 64 → Finset (Idx ℓ)) (hd : ∀ b b', b ≠ b' → Disjoint (I b) (I b'))
    (hc : Finset.univ.biUnion I = Finset.univ) (f : Buf (Elt F) ℓ) :
    ((ℓ ↦{fullShare} f) : sProp 𝕄) = bigSep Finset.univ fun t : T => ℓ ↦[I (ch c t)]{fullShare} f := by
  rw [Ring.pointsTo_blocks I hd hc f, bigSep_univ_equiv (chE c)]
  rfl

/-- Chunks held at contents of their own are the buffer at some contents. -/
theorem sq_join (c : Dev nD) (ℓ : Loc nD τ sig) (I : Fin 64 → Finset (Idx ℓ)) (hd : ∀ b b', b ≠ b' → Disjoint (I b) (I b'))
    (hc : Finset.univ.biUnion I = Finset.univ) (f₀ : Buf (Elt F) ℓ) :
    (bigSep Finset.univ fun t : T => iprop(∃ f, ℓ ↦[I (ch c t)]{fullShare} f))
      ⊢ (iprop(∃ g, ℓ ↦{fullShare} g) : sProp 𝕄) := by
  refine Entails.trans (Entails.of_eq ?_) (Ring.pointsTo_blocks_join_exists I hd hc f₀)
  rw [bigSep_univ_equiv (chE c) fun j => (iprop(∃ f, ℓ ↦[I j]{fullShare} f) : sProp 𝕄)]
  rfl

theorem w_blocks (c : Dev nD) (f : S2048x2048.Idx → Elt F .f32) :
    ((((c : Thread nD τ).loc cc0_scratch0) ↦{fullShare} f) : sProp 𝕄)
      = bigSep Finset.univ fun t : T => wP c (ch c t) fullShare f :=
  sq_blocks c ((c : Thread nD τ).loc cc0_scratch0) kset kset_disj kset_cover f
theorem k_blocks (c : Dev nD) (f : S2048x2048.Idx → Elt F .f32) :
    (kW c f : sProp 𝕄) = bigSep Finset.univ fun t : T => kP c (ch c t) f :=
  sq_blocks c ((c : Thread nD τ).loc cc0_scratch1) kset kset_disj kset_cover f
theorem o_blocks (c : Dev nD) (f : S2048x2048.Idx → Elt F .f32) :
    ((((c : Thread nD τ).loc main_v1) ↦{fullShare} f) : sProp 𝕄)
      = bigSep Finset.univ fun t : T => oP c (ch c t) f :=
  sq_blocks c ((c : Thread nD τ).loc main_v1) kset kset_disj kset_cover f
theorem k_join (c : Dev nD) (f₀ : S2048x2048.Idx → Elt F .f32) :
    (bigSep Finset.univ fun t : T => iprop(∃ f, kP (F := F) c (ch c t) f)) ⊢ (iprop(∃ g, kW (F := F) c g) : sProp 𝕄) :=
  sq_join c ((c : Thread nD τ).loc cc0_scratch1) kset kset_disj kset_cover f₀

/-! ## The places handed over at the meeting -/

/-- A device's receive buffer, handed to its three neighbours: to each the places that it sends to. -/
theorem slots_give (c : Dev nD) (f : S2048x2048.Idx → Elt F .f32) :
    (((c : Thread nD τ).loc cc0_scratch0) ↦{fullShare} f : sProp 𝕄)
      ⊢ bigSep Finset.univ fun d : Fin 3 => bigSep Finset.univ fun t : T => slot (F := F) (pe d c) d t := by
  have h1 : ∀ t : T, wP (F := F) c (ch c t) fullShare f ⊢ iprop(∃ f, wP (F := F) c (ch c t) fullShare f) := fun t => by
    iintro H; iexists f; iexact H
  have h2 : (bigSep Finset.univ fun t : T => iprop(∃ f, wP (F := F) c (ch c t) fullShare f))
      = bigSep Finset.univ fun d : Fin 3 => bigSep Finset.univ fun t : T => slot (F := F) (pe d c) d t := by
    rw [← fiber (fun _ t => iprop(∃ f, wP (F := F) c (ch c t) fullShare f))]
    refine bigSep_congr fun d _ => bigSep_congr fun t _ => ?_
    unfold slot
    rw [pe_pe]
  rw [w_blocks, ← h2]
  exact bigSep_mono fun t _ => h1 t

/-- What a device gets at the meeting: the places that it sends to, one for each block. -/
theorem slots_get (c : Dev nD) :
    (bigSep Finset.univ fun d => bigSep Finset.univ fun t : T => slot (F := F) c d t)
      = bigSep Finset.univ fun t : T => iprop(∃ f, wP (F := F) (pe (dirT t) c) (ch (pe (dirT t) c) t) fullShare f) :=
  fiber fun d t => iprop(∃ f, wP (F := F) (pe d c) (ch (pe d c) t) fullShare f)

/-! ## Shares of a chunk -/

/-- The shares that the forwardings took, back together with the one that stayed. -/
theorem shares_join (c : Dev nD) (j : Fin 64) (f : S2048x2048.Idx → Elt F .f32) (κ : PosShare TreeShare) (l : List T)
    (q : PosShare TreeShare) (h : ShOk κ q l) :
    iprop(wP c j κ f ∗ bigSepL l fun u => wP c j (sq u) f) ⊢ (wP c j q f : sProp 𝕄) := by
  induction l generalizing q with
  | nil =>
    obtain rfl : q = κ := h
    iintro ⟨H, -⟩; iexact H
  | cons u l ih =>
    obtain ⟨h1, h2⟩ := h
    rw [bigSepL_cons']
    iintro ⟨Hk, Hu, Hl⟩
    ihave Hr := (ih q.right h2) $$ [Hk Hl]
    · isplitl [Hk] <;> iassumption
    have hj : iprop(wP c j q.left f ∗ wP c j q.right f) ⊢ (wP c j q f : sProp 𝕄) :=
      (pointsTo_share (PosShare.mem_left_op_right q)).2
    iapply hj
    isplitl [Hu]; · rw [← h1]; iexact Hu
    iexact Hr

/-- The receive buffer whole again, after the forwardings have been waited for. -/
theorem w_join (c : Dev nD) :
    iprop((bigSepL order fun t => wP c (ch c t) (rq t) (Wc m c))
        ∗ bigSepL order fun t => bigSepL (outs t) fun u => sndPay m c u)
      ⊢ (((c : Thread nD τ).loc cc0_scratch0) ↦{fullShare} Wc m c : sProp 𝕄) := by
  rw [← bigSepL_sep, w_blocks, bigSep_order]
  refine bigSepL_mono fun t _ => ?_
  have h : ∀ l : List T, (∀ u ∈ l, srcT u = t ∧ dirT u ≠ 0) →
      bigSepL l (fun u => sndPay m c u) ⊢ bigSepL l fun u => wP c (ch c t) (sq u) (Wc m c) :=
    fun l hl => bigSepL_mono fun u hu => by
      unfold sndPay
      rw [if_neg (hl u hu).2, (hl u hu).1]
  refine (BIClass.sep_mono (BI.Entails.refl _) (h (outs t) (outs_src t))).trans ?_
  exact shares_join c (ch c t) (Wc m c) (rq t) (outs t) fullShare (shOk t)

/-! ## The partial sums -/

theorem mem_aset (c : Dev nD) (j : Fin 64) (x : S1x4096x2048.Idx) (h : x ∈ (aM' c j).view.set) :
    (x 1).val / 32 = 64 * (1 - c.val / 2 % 2) + j.val := by
  obtain ⟨y, -, rfl⟩ := Finset.mem_map.1 h
  obtain ⟨a, b, rfl⟩ : ∃ (a : Fin 32) (b : Fin 2048), y = ix2 a b := ⟨y 0, y 1, eq_ix2 y⟩
  rw [aCh_emb]
  show ((2048 * (1 - c.val / 2 % 2) + 32 * j.val) + 1 * a.val) / 32 = _
  omega

theorem aset_disj (c : Dev nD) (t t' : T) (h : t ≠ t') :
    Disjoint (aM' c (ch c t)).view.set (aM' c (ch c t')).view.set := by
  rw [Finset.disjoint_left]
  intro x hi hj
  have h1 := mem_aset c _ x hi
  have h2 := mem_aset c _ x hj
  exact h (ch_inj c (Fin.ext (by omega)))

theorem yOrd_nodup : yOrd.Nodup := by decide +kernel

/-- What of the partial sums no send and no local copy reads. -/
def aRest (c : Dev nD) : sProp 𝕄 :=
  iprop((((c : Thread nD τ).loc main_arg0) ↦[Finset.univ \ (hM c).view.set]{fullShare.left} arg0 m c)
    ∗ (((c : Thread nD τ).loc main_arg0) ↦[Finset.univ \ yOrd.toFinset.biUnion fun t => (aM' c (ch c t)).view.set]{fullShare.right} arg0 m c))

/-- The partial sums are what the local copy reads, what the sends read, and the rest. -/
theorem a_split (c : Dev nD) :
    (((c : Thread nD τ).loc main_arg0) ↦{fullShare} arg0 m c : sProp 𝕄)
      ⊣⊢ iprop(hP m c ∗ (bigSepL yOrd fun t => aP m c (ch c t)) ∗ aRest m c) := by
  have h1 : (((c : Thread nD τ).loc main_arg0) ↦{fullShare} arg0 m c : sProp 𝕄)
      ⊣⊢ iprop((((c : Thread nD τ).loc main_arg0) ↦{fullShare.left} arg0 m c)
        ∗ (((c : Thread nD τ).loc main_arg0) ↦{fullShare.right} arg0 m c)) :=
    pointsTo_share (PosShare.mem_left_op_right fullShare)
  have h2 : (((c : Thread nD τ).loc main_arg0) ↦{fullShare.left} arg0 m c : sProp 𝕄)
      ⊣⊢ iprop(hP m c ∗ ((c : Thread nD τ).loc main_arg0) ↦[Finset.univ \ (hM c).view.set]{fullShare.left} arg0 m c) :=
    pointsTo_split_subset (Finset.subset_univ _)
  have h3 : (((c : Thread nD τ).loc main_arg0) ↦{fullShare.right} arg0 m c : sProp 𝕄)
      ⊣⊢ iprop((((c : Thread nD τ).loc main_arg0) ↦[yOrd.toFinset.biUnion fun t => (aM' c (ch c t)).view.set]{fullShare.right} arg0 m c)
        ∗ ((c : Thread nD τ).loc main_arg0) ↦[Finset.univ \ yOrd.toFinset.biUnion fun t => (aM' c (ch c t)).view.set]{fullShare.right} arg0 m c) :=
    pointsTo_split_subset (Finset.subset_univ _)
  have h4 : (((c : Thread nD τ).loc main_arg0) ↦[yOrd.toFinset.biUnion fun t => (aM' c (ch c t)).view.set]{fullShare.right} arg0 m c : sProp 𝕄)
      = bigSepL yOrd fun t => aP m c (ch c t) := by
    exact (pointsTo_biUnion (ℓ := (c : Thread nD τ).loc main_arg0) yOrd.toFinset (fun t => (aM' c (ch c t)).view.set)
      (fun t _ t' _ h => aset_disj c t t' h)).trans (bigSep_eq_bigSepL yOrd yOrd_nodup _)
  unfold aRest
  rw [h4] at h3
  constructor
  · iintro H
    ihave H := h1.1 $$ H
    icases H with ⟨Hl, Hr⟩
    ihave Hl := h2.1 $$ Hl
    ihave Hr := h3.1 $$ Hr
    icases Hl with ⟨Hl, Hl'⟩
    icases Hr with ⟨Hr, Hr'⟩
    isplitl [Hl]; · iexact Hl
    isplitl [Hr]; · iexact Hr
    isplitl [Hl'] <;> iassumption
  · iintro ⟨Hl, Hr, Hl', Hr'⟩
    iapply h1.2
    isplitl [Hl Hl']
    · iapply h2.2
      isplitl [Hl] <;> iassumption
    · iapply h3.2
      isplitl [Hr] <;> iassumption

/-- What the sends along the second axis hand back. -/
theorem y_back (c : Dev nD) :
    (bigSepL yOrd fun t => sndPay m c t) ⊢ (bigSepL yOrd fun t => aP m c (ch c t) : sProp 𝕄) :=
  bigSepL_mono fun t ht => by unfold sndPay; rw [if_pos (yOrd_dir t ht)]

/-! ## The lists of the program, by the blocks -/

theorem sendA_congr {oa oa' : Fin 3 → ℕ} {ha : FitA oa} {ha' : FitA oa'} {o o' : Fin 2 → ℕ} {h : Fit o} {h' : Fit o'}
    {s s' : Snd} (e1 : oa = oa') (e2 : o = o') (e3 : s = s') :
    (sendA oa ha o h s : Eff F PUnit) = sendA oa' ha' o' h' s' := by subst e1 e2 e3; rfl
theorem waitS_congr {oa oa' : Fin 3 → ℕ} {ha : FitA oa} {ha' : FitA oa'} {o o' : Fin 2 → ℕ} {h : Fit o} {h' : Fit o'}
    {s s' : DmaSem sig} (e1 : oa = oa') (e2 : o = o') (e3 : s = s') :
    (waitS oa ha o h s : Eff F PUnit) = waitS oa' ha' o' h' s' := by subst e1 e2 e3; rfl
theorem waitW_congr {o o' : Fin 2 → ℕ} {h : Fit o} {h' : Fit o'}
    {s s' : DmaSem sig} (e2 : o = o') (e3 : s = s') : (waitW o h s : Eff F PUnit) = waitW o' h' s' := by
  subst e2 e3; rfl
theorem waitO_congr {o o' : Fin 2 → ℕ} {h : Fit o} {h' : Fit o'}
    {s s' : DmaSem sig} (e2 : o = o') (e3 : s = s') : (waitO o h s : Eff F PUnit) = waitO o' h' s' := by
  subst e2 e3; rfl

/-- The closing wait for the send to a block. -/
def sEff (c : Dev nD) (t : T) : Eff F PUnit :=
  if dirT t = 0 then waitS (aofs c (ch c t)) (aofs_fit c (ch c t)) (ofs (ch c t)) (ofs_fit (ch c t)) (sS t)
  else waitW (ofs (ch c (srcT t))) (ofs_fit (ch c (srcT t))) (sS t)
/-- The closing wait for a block's copy to the result. -/
abbrev oEff (c : Dev nD) (t : T) : Eff F PUnit := waitO (ofs (ch c t)) (ofs_fit (ch c t)) (wS t)

theorem sem_hi1 (k : Fin 8) : (dsem (1 + (hi k).val) (by have := (hi k).isLt; omega) : DmaSem sig) = sS (2, k) :=
  Fin.ext (show 1 + (k.val + 8) = 9 + k.val by omega)
theorem sem_hi2 (k : Fin 8) : (dsem (17 + (hi k).val) (by have := (hi k).isLt; omega) : DmaSem sig) = rS (2, k) :=
  Fin.ext (show 17 + (k.val + 8) = 25 + k.val by omega)

theorem sEff_y (c : Dev nD) (t : T) (h : dirT t = 0) : (sEff c t : Eff F PUnit)
    = waitS (aofs c (ch c t)) (aofs_fit c (ch c t)) (ofs (ch c t)) (ofs_fit (ch c t)) (sS t) := if_pos h

theorem ySends_eq (c : Dev nD) : (l16.map (ySend (F := F) c)) = yOrd.map (yEff c) := by
  unfold yOrd
  rw [List.map_append, List.map_append, List.map_map, List.map_map, List.map_map, List.map_map]
  refine congrArg₂ (fun y z => y ++ z) ?_ ?_
  · exact List.map_congr_left fun k _ => sendA_congr (e3a c k) (e2a c k) rfl
  · exact List.map_congr_left fun k _ => sendA_congr (e3b c k) (e2b c k)
      (by unfold sndOf; rw [← sem_hi1 k, ← sem_hi2 k]; rfl)

theorem yWaits_eq (c : Dev nD) : (l16.map (yWait (F := F) c)) = yOrd.map (sEff c) := by
  unfold yOrd
  rw [List.map_append, List.map_append, List.map_map, List.map_map, List.map_map, List.map_map]
  refine congrArg₂ (fun y z => y ++ z) ?_ ?_
  · exact List.map_congr_left fun k _ => (waitS_congr (h := k0_off2_inb c (lo k)) (e3a c k) (e2a c k) rfl).trans (sEff_y c (0, k) rfl).symm
  · exact List.map_congr_left fun k _ => (waitS_congr (h := k0_off2_inb c (hi k)) (e3b c k) (e2b c k) (sem_hi1 k)).trans (sEff_y c (2, k) rfl).symm

theorem sndWaits_eq (c : Dev nD) (t : T) : sndWaits (blkAt (F := F) c t) = (outs t).map (sEff c) := by
  unfold sndWaits
  rw [blk_snd, List.map_map]
  refine List.map_congr_left fun u hu => ?_
  obtain ⟨h1, h2⟩ := outs_src t u hu
  exact (waitW_congr ((blk_o c t).trans (by rw [h1])) rfl).trans (if_neg h2).symm

theorem sWaits_eq (c : Dev nD) :
    l16.map (yWait (F := F) c) ++ order.flatMap (fun t => sndWaits (blkAt c t)) = sOrd.map (sEff c) := by
  unfold sOrd
  rw [yWaits_eq, List.map_append, List.map_flatMap]
  refine congrArg (fun z => yOrd.map (sEff c) ++ z) ?_
  exact congrArg (fun f => order.flatMap f) (funext fun t => sndWaits_eq c t)

theorem oWaits_eq (c : Dev nD) :
    (order.map fun t => waitO (blkAt (F := F) c t).o (blkAt (F := F) c t).h (blkAt (F := F) c t).wb)
      = order.map (oEff (F := F) c) :=
  List.map_congr_left fun t _ => waitO_congr (blk_o c t) (blk_wb c t)

theorem sEff_w (c : Dev nD) (t : T) (X : PUnit → sProp 𝕄) :
    wpE (defs₀ (F := F)) 𝒱₀ (c : Thread nD τ) none Set.univ (sEff (F := F) c t) X
      = waitSpec (c : Thread nD τ) Set.univ (csem (cS t)) (amt (some (cS t))) X := by
  refine Eq.trans (b := waitSpec (c : Thread nD τ) Set.univ (.dma (sS t)) (cM wM 0).view.dmaCredit X) ?_ (by rw [← N_eq]; rfl)
  unfold sEff
  split
  · rfl
  · rfl

theorem oEff_w (c : Dev nD) (t : T) (X : PUnit → sProp 𝕄) :
    wpE (defs₀ (F := F)) 𝒱₀ (c : Thread nD τ) none Set.univ (oEff (F := F) c t) X
      = waitSpec (c : Thread nD τ) Set.univ (csem (cW t)) (amt (some (cW t))) X := by
  refine Eq.trans (b := waitSpec (c : Thread nD τ) Set.univ (.dma (wS t)) (cM oM 0).view.dmaCredit X) rfl (by rw [← NO_eq]; rfl)

theorem lWait_w (c : Dev nD) (X : PUnit → sProp 𝕄) :
    wpE (defs₀ (F := F)) 𝒱₀ (c : Thread nD τ) none Set.univ (locWait (F := F) c) X
      = waitSpec (c : Thread nD τ) Set.univ (csem cL) (amt (some cL)) X := by
  refine Eq.trans (b := waitSpec (c : Thread nD τ) Set.univ (.dma (dsem 129)) kM.view.dmaCredit X) rfl (by rw [← NL_eq]; rfl)

end Cert.KernelIdeal.Own

end
-- ==== Proof.Body.lean ====
module

public import proofs.«01_k».proof.Proof.Res

/-! The whole body, from what a device holds at its start to what it holds at its end. -/

@[expose] public section

noncomputable section

namespace Cert.KernelIdeal.Own

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## What a device holds -/

/-- The tokens of the duties that a device pays. -/
def payToks (c : Dev nD) : sProp 𝕄 :=
  iprop((bigSep Finset.univ fun d : Fin 3 => dutyTok ER (bcell (pe d c)) 0 d) ∗ tk c cL
    ∗ (bigSep Finset.univ fun t : T => tk c (cS t)) ∗ (bigSep Finset.univ fun t : T => tk (pe (dirT t) c) (cR t))
    ∗ bigSep Finset.univ fun t : T => tk c (cW t))

/-- A device's positions and tokens. -/
def linear (c : Dev nD) : sProp 𝕄 :=
  iprop((bigSep Finset.univ fun k : Ck => at0 c k) ∗ payToks c)

/-- The credits that a device starts with: three units of its meeting, and every chunk that it receives. -/
def creds (c : Dev nD) : sProp 𝕄 :=
  iprop(cred (tallyAt (bcell c) () 3) ∗ bigSep Finset.univ fun t : T => cr c (cR t))

/-- The buffers at the start. -/
def bufs₀ (c : Dev nD) : sProp 𝕄 :=
  iprop((∃ f : S2048x2048.Idx → Elt F .f32, ((c : Thread nD τ).loc cc0_scratch0) ↦{fullShare} f)
    ∗ (∃ f, kW (F := F) c f) ∗ (((c : Thread nD τ).loc main_arg0) ↦{fullShare} arg0 m c)
    ∗ ∃ f : S2048x2048.Idx → Elt F .f32, ((c : Thread nD τ).loc main_v1) ↦{fullShare} f)

/-- The buffers at the end. -/
def bufs₁ (c : Dev nD) : sProp 𝕄 :=
  iprop((∃ f : S2048x2048.Idx → Elt F .f32, ((c : Thread nD τ).loc cc0_scratch0) ↦{fullShare} f)
    ∗ (∃ f, kW (F := F) c f) ∗ (((c : Thread nD τ).loc main_arg0) ↦{fullShare} arg0 m c)
    ∗ (((c : Thread nD τ).loc main_v1) ↦{fullShare} OUT m (gst m c) c))

/-- The staged scale row. -/
def gP (c : Dev nD) : sProp 𝕄 := ((c : Thread nD τ).loc cc0_stg0_0) ↦{fullShare} gst m c

/-! ## The meeting -/

theorem amount_B (c : Dev nD) (d : Fin 3) :
    (Rd (F := F) m).amount ((c : Thread nD τ), .reg barS) 0 d = 1 := amount_at m c _ dec_B d
theorem mem_bar (c : Dev nD) (d : Fin 3) : d ∈ (Rd (F := F) m).duties ((c : Thread nD τ), .reg barS) 0 := by
  rw [duties_at m c _ dec_B]; exact Finset.mem_univ d

theorem pay_B (c : Dev nD) (d : Fin 3) : pay m c d (some cB) = bigSep Finset.univ fun t : T => slot (F := F) c d t := rfl
theorem pay_S (c : Dev nD) (t : T) : pay m c 0 (some (some (some (0, t)))) = sndPay m c t := rfl
theorem pay_W (c : Dev nD) (t : T) : pay m c 0 (some (some (some (2, t)))) = wbPay m c t := rfl

/-- A signal to a neighbour hands it the places it sends to. -/
theorem wp_sig (c : Dev nD) (d : Fin 3) (O : CellTallies nD τ sig Unit) (W : Waits sig Unit) (p : Pr F) (Q : PUnit → sProp 𝕄) :
    iprop(recs m K ∗ owes (c : Thread nD τ) (O + tallyAt (bcell (pe d c)) () 1) W ∗ dutyTok ER (bcell (pe d c)) 0 d
        ∗ bigSep Finset.univ fun t : T => slot (F := F) (pe d c) d t)
      ⊢ iprop((owes (c : Thread nD τ) O W -∗ wpc c p Q)
          -∗ wpc c (.op (.semSignal (Dev.tc (pe d c)) barS 1) fun _ => p) Q) := by
  iintro ⟨#HR, HO, Htk, Hs⟩ Hk
  iapply (Rounds.wp_signal 𝒱₀ ER (Rd m) (c : Thread nD τ) none (dst := (pe d c : Thread nD τ)) (κ := K (pe d c, cB))
    (r := 0) (d := d) (k' := 1) (mem_bar m (pe d c) d) (amount_B m (pe d c) d) () O rfl (W := W)) $$ [HO Htk Hs]
  · isplitr; · iapply (inv_at m K (pe d c) cB); iexact HR
    isplitl [HO]; · iexact HO
    isplitl [Htk]; · iexact Htk
    isplitl [Hs]
    · rw [payload_at m (pe d c) _ dec_B, pay_B]; iexact Hs
    iapply (reached_at m K (pe d c) cB); iexact HR
  iexact Hk

/-- The wait at the meeting hands over the places of all three neighbours. -/
theorem wp_meet (c : Dev nD) (W : Waits sig Unit) (p : Pr F) (Q : PUnit → sProp 𝕄) :
    iprop((recs m K ∗ levAts L lv) ∗ at0 c cB ∗ cred (tallyAt (bcell c) () 3) ∗ owes (c : Thread nD τ) (Os c sOrd) W)
      ⊢ iprop((((bigSep Finset.univ fun t : T => iprop(∃ f, wP (F := F) (pe (dirT t) c) (ch (pe (dirT t) c) t) fullShare f))
            ∗ z0 c cB ∗ owe c sOrd) -∗ wpc c p Q)
          -∗ wpc c (.op (.semWait barS 3) fun _ => p) Q) := by
  have hlv : ∀ t : T, 1 < lvT t := by decide +kernel
  iintro ⟨⟨#HR, #Hlev⟩, Hat, Hcr, HO⟩ Hk
  iapply (Rounds.wp_wait_rest_token 𝒱₀ ER (Rd m) (c : Thread nD τ) none (κ := K (c, cB))
    (wpE_semWait_eq 𝒱₀ (c : Thread nD τ) none Set.univ) (Set.mem_univ _) ()
    (O := Os c sOrd) (W := W) (R := 0) (m := 0) (T := ∅) (by rw [Nat.zero_add, expect_bar])) $$ [Hat Hcr HO]
  · isplitr; · iapply (inv_at m K c cB); iexact HR
    isplitl [Hcr]; · iexact Hcr
    isplitl [HO]; · iexact HO
    isplitr
    · iapply (mayWait_Os c (.reg barS) sOrd (by rw [dec_B]; exact fun t _ => hlv t)); iexact Hlev
    iexact Hat
  iintro ⟨HO, Hat, -, Hpay⟩
  imod (Rounds.cell_close ER (Rd m) (Set.mem_univ (K (c, cB))) (fun h => h) (R := 0 + 1)
    (duties_later m (kcell (c, cB)))) $$ [Hat] with Hz
  · isplitr; · iapply (inv_at m K c cB); iexact HR
    iexact Hat
  iapply Hk
  isplitl [Hpay]; · iapply (Entails.of_eq ((rest_bar m c).trans (slots_get c))); iexact Hpay
  isplitl [Hz]; · iexact Hz
  unfold owe
  iexists _; iexact HO

/-! ## The copy of the kept rows -/

theorem amount_L (c : Dev nD) (d : Fin 3) :
    (Rd (F := F) m).amount ((c : Thread nD τ), csem cL) 0 d = NL := amount_at m c _ dec_L d
theorem amt_l (s : DmaSem sig) : kM.view.amount (.dma s) = NL := NL_eq.symm

theorem wp_loc (c : Dev nD) (p : Pr F) (Q : PUnit → sProp 𝕄) :
    iprop(recs m K ∗ hP m c ∗ (∃ f, kW (F := F) c f) ∗ tk c cL)
      ⊢ iprop((cr c cL -∗ wpc c p Q) -∗ wpc c (.op (locCopy c) fun _ => p) Q) := by
  unfold hP kW
  have hset : kM.view.set = Finset.univ := View.set_whole _
  iintro ⟨#HR, Hh, ⟨%f, Hk⟩, Htk⟩ Hc
  iapply (Rounds.wp_copy_pointsTo 𝒱₀ ER (Rd m) (c : Thread nD τ) none (κ := K (c, cL)) (r := 0) (d := 0)
    (q := fullShare.left) (src := hM c) (dst := kM) (fs := arg0 m c) (fd := f)
    (mem_duties m c (csem cL) dec_L) () NL (amt_l _) (amount_L m c 0)
    (by
      rw [payload_at m c (csem cL) dec_L]
      show _ ⊢ iprop(kW c (keepc m c) ∗ hP m c)
      refine BIClass.sep_mono (Entails.of_eq ?_) (BI.Entails.refl _)
      unfold kW keepc
      rw [View.write_whole_univ, hset])) $$ [Hh Hk Htk]
  · isplitr; · iapply (inv_at m K c cL); iexact HR
    isplitl [Hh]; · iexact Hh
    isplitl [Hk]; · rw [hset]; iexact Hk
    isplitl [Htk]; · iexact Htk
    iapply (reached_at m K c cL); iexact HR
  iexact Hc

/-! ## After the local rows have come -/

/-- What is held once the sends along the second axis are on their way and the local rows have come. -/
def midPre (c : Dev nD) : sProp 𝕄 :=
  iprop(bigSepL order (bPre m c) ∗ bigSepL yOrd (fun t => cr c (cS t)) ∗ bigSepL sOrd (fun t => at0 c (cS t))
    ∗ bigSepL order fun t => at0 c (cW t))

/-- What is held once every wait is over. -/
def midPost (c : Dev nD) : sProp 𝕄 :=
  iprop((bigSepL order fun t => iprop(z0 c (cR t) ∗ wP c (ch c t) (rq t) (Wc m c)))
    ∗ (bigSepL sOrd fun t => iprop(sndPay m c t ∗ z0 c (cS t)))
    ∗ bigSepL order fun t => iprop(wbPay m c t ∗ z0 c (cW t)))

theorem read_g (c : Dev nD) (h) : gM.view.readAt (Elt F) (Rect.unit (s := S2048) ![0] S2048.size h).toLoadRect (gst m c) = gst m c :=
  Memref.readAt_unit_zero (Elt F) cc0_stg0_0 (funext fun a => by fin_cases a; rfl) _ _

/-- The blocks and the closing waits. -/
theorem wp_tail (c : Dev nD) (Q : PUnit → sProp 𝕄) :
    iprop((recs m K ∗ levAts L lv) ∗ gP m c ∗ midPre m c ∗ owe c (order.flatMap outs))
      ⊢ iprop(((gP m c ∗ midPost m c ∗ owe c []) -∗ Q ⟨⟩) -∗ wpc c (tailP c) Q) := by
  have hS : ∀ (t : T) (p : Pr F) (Q : PUnit → sProp 𝕄),
      iprop((recs m K ∗ levAts L lv) ∗ (at0 c (cS t) ∗ cr c (cS t)) ∗ owe c [])
        ⊢ iprop((((sndPay m c t ∗ z0 c (cS t)) ∗ owe c []) -∗ wpc c p Q) -∗ wpc c (.op (sEff c t) fun _ => p) Q) := fun t p Q => by
    iintro H Hk
    iapply (wp_cell m K c (some (0, t)) (sEff c t) (sEff_w c t) [] (fun _ h => absurd h List.not_mem_nil) p Q) $$ H
    rw [pay_S]
    iintro ⟨H1, H2, H3⟩
    iapply Hk
    isplitr [H3]
    · isplitl [H1]; · iexact H1
      iexact H2
    iexact H3
  have hW : ∀ (t : T) (p : Pr F) (Q : PUnit → sProp 𝕄),
      iprop((recs m K ∗ levAts L lv) ∗ (at0 c (cW t) ∗ cr c (cW t)) ∗ owe c [])
        ⊢ iprop((((wbPay m c t ∗ z0 c (cW t)) ∗ owe c []) -∗ wpc c p Q) -∗ wpc c (.op (oEff c t) fun _ => p) Q) := fun t p Q => by
    iintro H Hk
    iapply (wp_cell m K c (some (2, t)) (oEff c t) (oEff_w c t) [] (fun _ h => absurd h List.not_mem_nil) p Q) $$ H
    rw [pay_W]
    iintro ⟨H1, H2, H3⟩
    iapply Hk
    isplitr [H3]
    · isplitl [H1]; · iexact H1
      iexact H2
    iexact H3
  have hb : bigSepL order (bPost m c) = iprop(bigSepL order (fun t => z0 (F := F) c (cR t)) ∗ bigSepL order (fun t => cr c (cW t))
      ∗ bigSepL order (fun t => wP c (ch c t) (rq t) (Wc m c)) ∗ bigSepL order fun t => bigSepL (outs t) fun u => cr c (cS u)) := by
    unfold bPost
    rw [bigSepL_sep, bigSepL_sep, bigSepL_sep]
  unfold midPre midPost gP
  iintro ⟨#HR, Hg, ⟨Hb, HcY, HaS, HaW⟩, HO⟩ Hk
  iapply (wp_load 𝒱₀ (c : Thread nD τ) none Set.univ (m := gM) (Finset.subset_univ _)) $$ Hg
  iintro Hg
  rw [read_g, sWaits_eq, oWaits_eq]
  iapply (wp_blks m K c order order_ok _ Q) $$ [Hb HO]
  · isplitr; · iexact HR
    isplitl [Hb] <;> iassumption
  iintro ⟨Hb, HO⟩
  ihave Hb := (Entails.of_eq hb) $$ Hb
  icases Hb with ⟨HzR, HcW, Hw, HcS⟩
  iapply (wp_ops c iprop(recs m K ∗ levAts L lv) (fun t => iprop(at0 c (cS t) ∗ cr c (cS t)))
    (fun t => iprop(sndPay m c t ∗ z0 c (cS t))) (owe c []) (sEff c) hS sOrd _ Q) $$ [HaS HcY HcS HO]
  · isplitr; · iexact HR
    isplitr [HO]
    · rw [bigSepL_sep]
      isplitl [HaS]; · iexact HaS
      unfold sOrd
      rw [bigSepL_append, bigSepL_flatMap]
      isplitl [HcY] <;> iassumption
    iexact HO
  iintro ⟨Hs, HO⟩
  iapply (wp_ops c iprop(recs m K ∗ levAts L lv) (fun t => iprop(at0 c (cW t) ∗ cr c (cW t)))
    (fun t => iprop(wbPay m c t ∗ z0 c (cW t))) (owe c []) (oEff c) hW order _ Q) $$ [HaW HcW HO]
  · isplitr; · iexact HR
    isplitr [HO]
    · rw [bigSepL_sep]
      isplitl [HaW] <;> iassumption
    iexact HO
  iintro ⟨Ho, HO⟩
  unfold wpc
  rw [wp_ret]
  imodintro
  iapply Hk
  isplitl [Hg]; · iexact Hg
  isplitr [HO]
  · isplitl [HzR Hw]
    · rw [bigSepL_sep]
      isplitl [HzR] <;> iassumption
    isplitl [Hs]; · iexact Hs
    iexact Ho
  iexact HO

/-! ## The body -/

/-- The body's start. -/
def bodyPre (c : Dev nD) : sProp 𝕄 :=
  iprop((recs m K ∗ levAts L lv) ∗ linear c ∗ creds c ∗ bufs₀ m c ∗ gP m c ∗ ∃ W, owes (c : Thread nD τ) (O₀ c) W)

/-- The body's end. -/
def bodyPost (c : Dev nD) : sProp 𝕄 :=
  iprop((bigSep Finset.univ fun k : Ck => z0 c k) ∗ bufs₁ m c ∗ gP m c ∗ ∃ W, owes (c : Thread nD τ) 0 W)

set_option maxHeartbeats 1000000 in
/-- The body, from its start to its end. -/
theorem sound_body (c : Dev nD) (Q : PUnit → sProp 𝕄) :
    iprop(bodyPre m K c ∗ (bodyPost m c -∗ Q ⟨⟩)) ⊢ wpc c prog Q := by
  unfold bodyPre linear payToks creds bufs₀
  rw [bigSep_cells, bigSep_three]
  iintro ⟨⟨#HR', ⟨⟨HaB, HaL, HaS, HaR, HaW⟩, ⟨HtB0, HtB1, HtB2⟩, HtL, HtS, HtR, HtW⟩, ⟨HcB, HcR⟩, ⟨⟨%fw, Hw⟩, Hk, Ha, ⟨%fo, Ho⟩⟩, Hg, ⟨%W, HO⟩⟩, Hend⟩
  icases HR' with ⟨#HR, #Hlev⟩
  unfold wpc
  rw [wp_deviceId]
  ihave Ha := (a_split m c).1 $$ Ha
  icases Ha with ⟨Hh, HaY, Har⟩
  -- the copy of the kept rows
  iapply (wp_loc m K c _ Q) $$ [Hh Hk HtL]
  · isplitr; · iexact HR
    isplitl [Hh]; · iexact Hh
    isplitl [Hk] <;> iassumption
  iintro HcL
  -- the meeting
  ihave Hs := (slots_give c fw) $$ Hw
  ihave Hs := (Entails.of_eq (bigSep_three _)) $$ Hs
  icases Hs with ⟨Hs0, Hs1, Hs2⟩
  unfold O₀
  iapply (wp_sig m K c 0 _ W _ Q) $$ [HO HtB0 Hs0]
  · isplitr; · iexact HR
    isplitl [HO]; · iexact HO
    isplitl [HtB0] <;> iassumption
  iintro HO
  iapply (wp_sig m K c 1 _ W _ Q) $$ [HO HtB1 Hs1]
  · isplitr; · iexact HR
    isplitl [HO]; · iexact HO
    isplitl [HtB1] <;> iassumption
  iintro HO
  iapply (wp_sig m K c 2 _ W _ Q) $$ [HO HtB2 Hs2]
  · isplitr; · iexact HR
    isplitl [HO]; · iexact HO
    isplitl [HtB2] <;> iassumption
  iintro HO
  iapply (wp_meet m K c W _ Q) $$ [HaB HcB HO]
  · isplitr
    · isplitr <;> iassumption
    isplitl [HaB]; · iexact HaB
    isplitl [HcB] <;> iassumption
  iintro ⟨Hpl, HzB, HO⟩
  -- what each send needs, in the order of the sends
  have hsn : iprop((bigSep Finset.univ fun t : T => iprop(∃ f, wP (F := F) (pe (dirT t) c) (ch (pe (dirT t) c) t) fullShare f))
      ∗ (bigSep Finset.univ fun t : T => tk c (cS t)) ∗ bigSep Finset.univ fun t : T => tk (pe (dirT t) c) (cR t))
      ⊢ (iprop(bigSepL yOrd (snO c) ∗ bigSepL order fun t => bigSepL (outs t) (snO c)) : sProp 𝕄) := by
    rw [← bigSep_sOrd, ← bigSep_sep', ← bigSep_sep']
    exact BI.Entails.refl _
  ihave Hsn := hsn $$ [Hpl HtS HtR]
  · isplitl [Hpl]; · iexact Hpl
    isplitl [HtS] <;> iassumption
  icases Hsn with ⟨HsY, HsF⟩
  -- the sends along the second axis
  rw [ySends_eq]
  iapply (wp_ysends m K c (order.flatMap outs) yOrd yOrd_dir _ Q) $$ [HaY HsY HO]
  · isplitr; · iexact HR
    isplitr [HO]
    · rw [bigSepL_sep]
      isplitl [HaY]; · iexact HaY
      iexact HsY
    iexact HO
  iintro ⟨HcY, HO⟩
  -- the local rows
  iapply (wp_cell m K c none (locWait c) (lWait_w c) (order.flatMap outs) (fun t _ => lvT_pos t) _ Q) $$ [HaL HcL HO]
  · isplitr
    · isplitr <;> iassumption
    isplitr [HO]
    · isplitl [HaL] <;> iassumption
    iexact HO
  rw [show pay m c 0 (some (some none)) = iprop(kW c (keepc m c) ∗ hP m c) from rfl]
  iintro ⟨⟨Hk, Hh⟩, HzL, HO⟩
  -- the blocks and the closing waits
  have hbp : iprop((bigSep Finset.univ fun t : T => at0 c (cR t)) ∗ (bigSep Finset.univ fun t : T => cr c (cR t))
      ∗ kW c (keepc m c) ∗ (((c : Thread nD τ).loc main_v1) ↦{fullShare} fo) ∗ (bigSep Finset.univ fun t : T => tk c (cW t))
      ∗ bigSepL order fun t => bigSepL (outs t) (snO c)) ⊢ bigSepL order (bPre m c) := by
    rw [k_blocks, o_blocks, bigSep_order, bigSep_order, bigSep_order, bigSep_order, bigSep_order]
    unfold bPre
    rw [bigSepL_sep, bigSepL_sep, bigSepL_sep, bigSepL_sep, bigSepL_sep]
    iintro ⟨H1, H2, H3, H4, H5, H6⟩
    isplitl [H1 H2]
    · isplitl [H1] <;> iassumption
    isplitr [H6]
    · isplitl [H3]; · iexact H3
      isplitl [H4]
      · have he : bigSepL order (fun t : T => oP (F := F) c (ch c t) fo)
            ⊢ (bigSepL order fun t : T => iprop(∃ f, oP (F := F) c (ch c t) f)) :=
          bigSepL_mono fun t _ => by iintro H; iexists fo; iexact H
        iapply he; iexact H4
      iexact H5
    iexact H6
  ihave Hb := hbp $$ [HaR HcR Hk Ho HtW HsF]
  · isplitl [HaR]; · iexact HaR
    isplitl [HcR]; · iexact HcR
    isplitl [Hk]; · iexact Hk
    isplitl [Ho]; · iexact Ho
    isplitl [HtW] <;> iassumption
  iapply (wp_tail m K c Q) $$ [Hg Hb HcY HaS HaW HO]
  · isplitr
    · isplitr <;> iassumption
    isplitl [Hg]; · iexact Hg
    isplitr [HO]
    · unfold midPre
      isplitl [Hb]; · iexact Hb
      isplitl [HcY]; · iexact HcY
      isplitl [HaS]
      · iapply (Entails.of_eq (bigSep_univ_eq_bigSepL sOrd sOrd_univ sOrd_nodup fun t => (at0 c (cS t) : sProp 𝕄))); iexact HaS
      iapply (Entails.of_eq (bigSep_order fun t => (at0 c (cW t) : sProp 𝕄))); iexact HaW
    iexact HO
  unfold midPost
  rw [bigSepL_sep, bigSepL_sep, bigSepL_sep]
  iintro ⟨Hg, ⟨⟨HzR, Hw⟩, ⟨Hsp, HzS⟩, Hwp, HzW⟩, HO⟩
  unfold wbPay
  ihave Hsp := (Entails.of_eq (show bigSepL sOrd (fun t => sndPay m c t)
      = iprop((bigSepL yOrd fun t => sndPay m c t) ∗ bigSepL order fun t => bigSepL (outs t) fun u => sndPay m c u) by
        unfold sOrd; rw [bigSepL_append, bigSepL_flatMap])) $$ Hsp
  icases Hsp with ⟨HsY, HsF⟩
  ihave HaY := (y_back m c) $$ HsY
  ihave Hw := (w_join m c) $$ [Hw HsF]
  · isplitl [Hw] <;> iassumption
  ihave Hwp := (Entails.of_eq (bigSepL_sep order (fun t => oP c (ch c t) (OUT m (gst m c) c)) fun t => iprop(∃ f, kP (F := F) c (ch c t) f))) $$ Hwp
  icases Hwp with ⟨Ho, Hk⟩
  iapply Hend
  unfold bodyPost bufs₁
  isplitl [HzB HzL HzR HzS HzW]
  · rw [bigSep_cells, bigSep_univ_eq_bigSepL sOrd sOrd_univ sOrd_nodup, bigSep_order, bigSep_order]
    isplitl [HzB]; · iexact HzB
    isplitl [HzL]; · iexact HzL
    isplitl [HzS]; · iexact HzS
    isplitl [HzR] <;> iassumption
  isplitr [Hg HO]
  · isplitl [Hw]; · iexists _; iexact Hw
    isplitl [Hk]
    · iapply (k_join c (keepc m c))
      rw [bigSep_order]; iexact Hk
    isplitr [Ho]
    · iapply (a_split m c).2
      isplitl [Hh]; · iexact Hh
      isplitl [HaY] <;> iassumption
    rw [o_blocks, bigSep_order]; iexact Ho
  isplitl [Hg]; · iexact Hg
  unfold owe
  icases HO with ⟨%W', HO⟩
  iexists W'; iexact HO

end Cert.KernelIdeal.Own

end
-- ==== Proof.Launch.lean ====
module

public import proofs.«01_k».proof.Proof.Body
public import proofs.«01_k».proof.Proof.Gen.KernelIdeal.Points
public import Idealize.ShloMosaic.Lib.Pipeline.CollectiveSegs
public import Idealize.ShloMosaic.Lib.Quiescent

/-! The launch: the cells and tokens made, dealt around the mesh, and the whole run. -/

@[expose] public section

noncomputable section

namespace Cert.KernelIdeal.Own

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline is told -/

/-- The two buffers that the body reads and writes itself, at the start. -/
def far₀ (c : Dev nD) : sProp 𝕄 :=
  iprop((((c : Thread nD τ).loc main_arg0) ↦{fullShare} arg0 m c)
    ∗ (((c : Thread nD τ).loc main_v1) ↦{fullShare} m ((c : Thread nD τ).loc main_v1)))
/-- The same at the end. -/
def far₁ (c : Dev nD) : sProp 𝕄 :=
  iprop((((c : Thread nD τ).loc main_arg0) ↦{fullShare} arg0 m c)
    ∗ (((c : Thread nD τ).loc main_v1) ↦{fullShare} OUT m (gst m c) c))

/-- The device's own buffers, at any contents. -/
def near (c : Dev nD) : sProp 𝕄 :=
  iprop((∃ f : S2048x2048.Idx → Elt F .f32, ((c : Thread nD τ).loc cc0_scratch0) ↦{fullShare} f)
    ∗ (∃ f : S2048x2048.Idx → Elt F .f32, ((c : Thread nD τ).loc cc0_scratch1) ↦{fullShare} f))

/-- What the launch gives a device. -/
def dealt (c : Dev nD) : sProp 𝕄 := iprop(∃ K, recs m K ∗ linear c)

def start (c : Dev nD) : sProp 𝕄 := iprop(dealt m c ∗ levAts L lv ∗ creds c ∗ far₀ m c)

def Φ₀ (c : Dev nD) : sProp 𝕄 := iprop(start m c ∗ near c)
def Φ₁ (c : Dev nD) : sProp 𝕄 := iprop((bigSep Finset.univ fun k : Ck => z0 c k) ∗ near c ∗ far₁ m c)

/-- The proof data of the one region. -/
def dats (_ : Fin 1) (c : Dev nD) : Dat τ (Elt F) Unit ℕ UU ℕ cfg0 c where
  A w := m ((cfg0.win w).arr.view.loc (c : Thread nD τ))
  after w _ := match w with
    | ⟨0, _⟩ => gst m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the pipeline holds before the body. -/
def before (c : Dev nD) : sProp 𝕄 :=
  iprop(Φ₀ m c ∗ (dats m 0 c).owesAt () t0_0.castSucc ∗ (∃ d, stg c cc0_stg0_0 ((dats m 0 c).before (0 : Fin 1) t0_0 d)))
/-- What it wants after it. -/
def after (c : Dev nD) : sProp 𝕄 :=
  iprop(Φ₁ m c ∗ (dats m 0 c).owesAt () t0_0.succ ∗ stg c cc0_stg0_0 (gst m c))

theorem before_sound (c : Dev nD) : before m c ⊢ wpc c prog fun _ => after m c := by
  unfold before Φ₀ start dealt far₀ near
  iintro ⟨⟨⟨⟨%K, #HR, Hl⟩, #Hlev, Hc, Ha, Hv⟩, Hw, Hk⟩, Ho, ⟨%d0, %g0, %hg0, Hx⟩⟩
  have hx : g0 = gst m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  iapply (sound_body m K c fun _ => after m c)
  isplitl
  · unfold bodyPre bufs₀ gP kW
    isplitr
    · isplitr <;> iassumption
    isplitl [Hl]; · iexact Hl
    isplitl [Hc]; · iexact Hc
    isplitl [Hw Hk Ha Hv]
    · isplitl [Hw]; · iexact Hw
      isplitl [Hk]; · iexact Hk
      isplitl [Ha]; · iexact Ha
      iexists _; iexact Hv
    isplitl [Hx]; · iexact Hx
    iexists W; iexact HO
  · unfold bodyPost bufs₁ gP kW after Φ₁ near far₁ Dat.owesAt Pipeline.owesWithin
    rw [show (dats m 0 c).owed t0_0.succ = 0 from rfl]
    iintro ⟨Hz, ⟨Hw, Hk, Ha, Hv⟩, Hx, ⟨%W', HO⟩⟩
    isplitl [Hz Hw Hk Ha Hv]
    · isplitl [Hz]; · iexact Hz
      isplitl [Hw Hk]
      · isplitl [Hw] <;> iassumption
      isplitl [Ha] <;> iassumption
    isplitl [HO]
    · iexists W'
      isplitr; · ipureintro; exact fun _ _ => Or.inl trivial
      iexact HO
    iexists _; isplitr; · (ipureintro; rfl)
    iexact Hx

set_option maxRecDepth 100000 in
set_option maxHeartbeats 0 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show before m c ⊢ wp frame (wpE (defs₀ (F := F)) 𝒱₀ c none) Set.univ
    (cc0_body (F := F) aM (Memref.isWhole_whole _) gM (Memref.isWhole_whole _) oM (Memref.isWhole_whole _)
      wM (Memref.isWhole_whole _) kM (Memref.isWhole_whole _) cc0_scratch2 cc0_scratch3 cc0_scratch4
      cc0_scratch5 cc0_scratch6 cc0_scratch7 cc0_scratch8 cc0_scratch9 cc0_scratch10 cc0_scratch11
      cc0_scratch12 cc0_scratch13) (fun _ => after m c)
  rw [body_eq t0_0]
  exact before_sound m c

/-! ## The cells and their tokens -/

/-- The kernel's own semaphores. -/
abbrev osem (k : Option (Fin 3 × T)) : SemLoc sig := csem (some k)

theorem osem_scoped : ∀ k, (osem k).isScoped .tc = true := by decide +kernel

theorem ownSemFacts : Pipeline.OwnSemFacts cfg0.spec osem :=
  ⟨osem_scoped, fun a b h => Option.some.inj (csem_inj h), fun k w s h => by
    have h1 := dec_csem (some k)
    rw [show csem (some k) = _ from h] at h1
    have h2 : ∀ (w : Fin cfg0.W) (s), dec (.dma ((cfg0.spec w).sem s)) = none := by decide
    rw [h2 w s] at h1
    exact absurd h1 (by simp)⟩

theorem share_eq (c : Dev nD) (w : Fin cfg0.W) : (dats m 0 c).share w = fullShare := by unfold Dat.share; split <;> rfl

def ringCells : Finset (GSem nD τ sig) := Finset.univ.map ⟨kcell, kcell_inj⟩

/-- A token of each duty name at each cell. -/
abbrev tokOf (x : Dev nD × Ck × Fin 3) : GSem nD τ sig × ℕ × Fin 3 := (kcell (x.1, x.2.1), 0, x.2.2)
theorem tokOf_inj : Function.Injective tokOf := fun a b h => by
  have h1 : (a.1, a.2.1) = (b.1, b.2.1) := kcell_inj (congrArg Prod.fst h)
  have h3 : a.1 = b.1 := (Prod.mk.inj h1).1
  have h4 : a.2.1 = b.2.1 := (Prod.mk.inj h1).2
  have h2 : a.2.2 = b.2.2 := congrArg (fun x : GSem nD τ sig × ℕ × Fin 3 => x.2.2) h
  exact Prod.ext h3 (Prod.ext h4 h2)
def ringToks : Finset (GSem nD τ sig × ℕ × Fin 3) := Finset.univ.map ⟨tokOf, tokOf_inj⟩

def u₀ : UU := (initOf (Pipeline.cells cfgs cellOf_inj) (Pipeline.launchToks cfgs cellOf_inj), initOf ringCells ringToks)

/-- The tokens of a device's own cells. -/
def toks (c : Dev nD) : sProp 𝕄 :=
  bigSep Finset.univ fun k : Ck => bigSep Finset.univ fun d : Fin 3 => dutyTok ER (kcell (c, k)) 0 d

def G (c : Dev nD) : sProp 𝕄 :=
  iprop((bigSep Finset.univ fun k : Ck => roundState ER (Rd m) (kcell (c, k)) 0)
    ∗ (bigSep Finset.univ fun k : Ck => iprop(at0 c k ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = z0 c cB := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun k : Ck => z0 c k : sProp 𝕄) := by
  rw [unscopedSems0_eq, bigSep_opt]
  unfold Pipeline.ownSems0
  constructor
  · iintro ⟨H1, H2⟩; isplitl [H2] <;> iassumption
  · iintro ⟨H2, H1⟩; isplitl [H1] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(at0 c k ∗ reached ER (kcell (c, k)) 0)) ∗ toks c) := by
  unfold G
  iintro ⟨Hos, Hus, Hst, Hat, Htok⟩
  ihave Hv := (sems0_eq (F := F) c).1 $$ [Hos Hus]
  · isplitl [Hos] <;> iassumption
  imod (show iprop((bigSep Finset.univ fun k : Ck => z0 c k) ∗ bigSep Finset.univ fun k : Ck => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay -/

/-- The neighbour along an axis, as a rearrangement of the devices. -/
def peE (d : Fin 3) : Dev nD ≃ Dev nD := ⟨pe d, pe d, pe_pe d, pe_pe d⟩

/-- A family over the devices and some names, each name's members moved along an axis. -/
theorem deal {I : Type} [Fintype I] (f : I → Fin 3) (Φ : Dev nD → I → sProp 𝕄) :
    (bigSep Finset.univ fun c : Dev nD => bigSep Finset.univ fun i => Φ c i)
      = bigSep Finset.univ fun c : Dev nD => bigSep Finset.univ fun i => Φ (pe (f i) c) i := by
  rw [bigSep_univ_comm, bigSep_univ_comm (fun (c : Dev nD) i => Φ (pe (f i) c) i)]
  exact bigSep_congr fun i _ => bigSep_univ_equiv (peE (f i)) fun c => Φ c i

theorem toks_own (c : Dev nD) : (toks c : sProp 𝕄)
    ⊢ iprop((bigSep Finset.univ fun d : Fin 3 => dutyTok ER (bcell c) 0 d) ∗ tk c cL
      ∗ (bigSep Finset.univ fun t : T => tk c (cS t)) ∗ (bigSep Finset.univ fun t : T => tk c (cR t))
      ∗ bigSep Finset.univ fun t : T => tk c (cW t)) := by
  have h (k : Ck) : bigSep Finset.univ (fun d : Fin 3 => dutyTok ER (kcell (c, k)) 0 d) ⊢ (tk c k : sProp 𝕄) :=
    bigSep_elim (Finset.mem_univ (0 : Fin 3))
  unfold toks
  rw [bigSep_cells]
  exact BIClass.sep_mono (BI.Entails.refl _) (BIClass.sep_mono (h cL) (BIClass.sep_mono (bigSep_mono fun t _ => h (cS t))
    (BIClass.sep_mono (bigSep_mono fun t _ => h (cR t)) (bigSep_mono fun t _ => h (cW t)))))

theorem toks_around : (bigSep Finset.univ fun c : Dev nD => (toks c : sProp 𝕄)) ⊢ bigSep Finset.univ fun c : Dev nD => payToks c := by
  have h : ∀ {P Q R : sProp 𝕄}, (P ⊢ Q) → Q = R → (P ⊢ R) := fun h e => e ▸ h
  refine h (bigSep_mono fun c _ => toks_own c) ?_
  unfold payToks
  rw [bigSep_sep', bigSep_sep', bigSep_sep', bigSep_sep', bigSep_sep', bigSep_sep', bigSep_sep', bigSep_sep',
    deal (fun d : Fin 3 => d) (fun c d => (dutyTok ER (bcell c) 0 d : sProp 𝕄)),
    deal dirT (fun c t => (tk c (cR t) : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(at0 c k ∗ reached ER (kcell (c, k)) 0)) ∗ toks c) : sProp 𝕄)
      ⊢ bigSep Finset.univ (dealt m) := by
  rw [bigSep_sep', bigSep_sep', ← bigSep_univ_prod (fun ck : Dev nD × Ck => iprop(∃ κ : ℕ, cellInv ER (Rd m) κ (kcell ck))),
    bigSep_congr (s := Finset.univ) (fun (c : Dev nD) _ => bigSep_sep' Finset.univ (fun k : Ck => (at0 c k : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (Rd m) κ (kcell ck) : sProp 𝕄))) $$ HI
  icases HK with ⟨%K, #HI⟩
  ihave Htk := (toks_around (F := F)) $$ Htok
  iapply (with_persistent (R := recs m K) fun c _ => show iprop(recs m K ∗ linear c) ⊢ dealt m c from by
    unfold dealt; iintro H; iexists K; iexact H)
  isplitr
  · unfold recs; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The credits of the launch -/

theorem rcell_eq {c d : Dev nD} {t t' : T} (h : kcell (c, cR t) = rcell d t') : t = t' ∧ d = pe (dirT t) c := by
  have h1 := kcell_inj (a₁ := (c, cR t)) (a₂ := (pe (dirT t') d, cR t')) h
  have ht : t = t' := by
    have h2 : cR t = cR t' := congrArg Prod.snd h1
    simpa using h2
  subst ht
  have h3 : c = pe (dirT t) d := congrArg Prod.fst h1
  exact ⟨rfl, by rw [h3, pe_pe]⟩

theorem Os_rcell (c d : Dev nD) (t : T) (l : List T) (hl : l.Nodup) :
    Os d l (kcell (c, cR t)) () = if t ∈ l ∧ d = pe (dirT t) c then N else 0 := by
  induction l with
  | nil => rw [if_neg (fun h => absurd h.1 List.not_mem_nil)]; rfl
  | cons u l ih =>
    unfold Os
    rw [Pi.add_apply, Finsupp.add_apply, ih hl.of_cons, tallyAt_apply]
    by_cases h : t = u ∧ d = pe (dirT t) c
    · obtain ⟨rfl, rfl⟩ := h
      rw [if_neg (fun h => (List.nodup_cons.mp hl).1 h.1), if_pos ⟨by show kcell _ = rcell _ _; unfold rcell; rw [pe_pe]; rfl, rfl⟩,
        if_pos ⟨List.mem_cons_self, rfl⟩, Nat.zero_add]
    · rw [if_neg (c := kcell (c, cR t) = rcell d u ∧ () = ()) (fun h' => h (rcell_eq h'.1)), Nat.add_zero]
      by_cases h2 : d = pe (dirT t) c
      · have h3 : t ≠ u := fun h' => h ⟨h', h2⟩
        simp only [List.mem_cons, h3, false_or]
      · rw [if_neg fun h' => h2 h'.2, if_neg fun h' => h2 h'.2]

theorem bcell_ne (c d : Dev nD) (k : Option (Fin 3 × T)) : kcell (c, some k) ≠ bcell d := fun h => by
  have := kcell_inj (a₁ := (c, some k)) (a₂ := (d, cB)) h
  exact absurd (congrArg Prod.snd this) (by simp)

theorem bcell_iff (c d : Dev nD) (j : Fin 3) : bcell c = bcell (pe j d) ↔ d = pe j c := by
  constructor
  · intro h
    have h1 : c = pe j d := congrArg (fun g : GSem nD τ sig => g.1.1) h
    rw [h1, pe_pe]
  · rintro rfl; rw [pe_pe]

theorem Os_bcell (c d : Dev nD) (l : List T) : Os d l (bcell c) () = 0 := by
  by_contra h
  obtain ⟨t, -, ht⟩ := Os_pos (Nat.pos_of_ne_zero h)
  exact bcell_ne (pe (dirT t) d) c (some (1, t)) ht.symm

theorem O₀_bcell (c d : Dev nD) : O₀ d (bcell c) ()
    = (if d = pe 2 c then 1 else 0) + (if d = pe 1 c then 1 else 0) + (if d = pe 0 c then 1 else 0) := by
  unfold O₀
  simp only [Pi.add_apply, Finsupp.add_apply, tallyAt_apply, Os_bcell, bcell_iff, and_true, Nat.zero_add]

theorem sOrd_mem (t : T) : t ∈ sOrd := by
  have := Finset.mem_univ t
  rw [sOrd_univ] at this
  exact List.mem_toFinset.mp this

theorem O₀_rcell (c d : Dev nD) (t : T) : O₀ d (kcell (c, cR t)) () = if d = pe (dirT t) c then N else 0 := by
  unfold O₀
  simp only [Pi.add_apply, Finsupp.add_apply, tallyAt_apply]
  rw [if_neg (fun h => bcell_ne c _ (some (1, t)) h.1), if_neg (fun h => bcell_ne c _ (some (1, t)) h.1),
    if_neg (fun h => bcell_ne c _ (some (1, t)) h.1), Os_rcell c d t sOrd sOrd_nodup]
  simp only [sOrd_mem, true_and, Nat.add_zero]

theorem launch_bar (c : Dev nD) :
    tallyOn (kcell (c, cB)) (launchCredit (Pipeline.owing O₀) 0 (kcell (c, cB))) = (tallyAt (bcell c) () 3 : CellTallies nD τ sig Unit) := by
  show tallyOn (bcell c) (launchCredit (Pipeline.owing O₀) 0 (bcell c)) = _
  unfold tallyAt; refine congrArg _ (Finsupp.ext fun u => ?_); cases u
  rw [Pipeline.launchCredit_owing, Finsupp.single_eq_same, Finset.sum_congr rfl fun d _ => O₀_bcell c d, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem launch_recv (c : Dev nD) (t : T) :
    tallyOn (kcell (c, cR t)) (launchCredit (Pipeline.owing O₀) 0 (kcell (c, cR t))) = (tallyAt (kcell (c, cR t)) () N : CellTallies nD τ sig Unit) := by
  unfold tallyAt; refine congrArg _ (Finsupp.ext fun u => ?_); cases u
  rw [Pipeline.launchCredit_owing, Finsupp.single_eq_same, Finset.sum_congr rfl fun d _ => O₀_rcell c d t,
    Finset.sum_ite_eq' Finset.univ _ fun _ => N, if_pos (Finset.mem_univ _)]

theorem creds_intro (c : Dev nD) : (Pipeline.launchCred O₀ c : sProp 𝕄) ⊢ creds c := by
  have h : (Pipeline.launchCred O₀ c : sProp 𝕄)
      ⊢ bigSep Finset.univ fun k : Ck => cred (tallyOn (kcell (c, k)) (launchCredit (Pipeline.owing O₀) 0 (kcell (c, k)))) := by
    unfold Pipeline.launchCred
    rw [bigSep_sdiff_split (Finset.subset_univ (Finset.univ.map ⟨csem, csem_inj⟩)), bigSep_map]
    exact sep_elim_left
  refine h.trans ?_
  rw [bigSep_cells, launch_bar, bigSep_congr (s := Finset.univ) fun t _ => congrArg cred (launch_recv c t)]
  unfold creds
  iintro ⟨H1, -, -, H2, -⟩
  isplitl [H1]; · iexact H1
  iexact H2

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  iintro ⟨Hf, Hlev, Hcr, -, HG⟩
  ihave Hc := (creds_intro (F := F) c) $$ Hcr
  imodintro
  unfold start far₀
  isplitl
  · isplitl [HG]; · iexact HG
    isplitl [Hlev]; · iexact Hlev
    isplitl [Hc]; · iexact Hc
    iexact Hf
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ near
  iintro ⟨Hs, -, Hr⟩
  isplitl [Hs]; · iexact Hs
  iexact Hr

/-- What is read at the end. -/
def Yc (c : Dev nD) : sProp 𝕄 := iprop(unscopedSems0 c ∗ far₁ m c)

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc near
  iintro ⟨Hz, Hr, Hf⟩
  ihave Hz := (sems0_eq (F := F) c).2 $$ Hz
  icases Hz with ⟨Ho, Hu⟩
  isplitl [Hu Hf]
  · isplitl [Hu] <;> iassumption
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s <;> decide) _ (by
      rcases t with ⟨_ | _, ht⟩
      · exact Or.inl rfl
      · exact Or.inr rfl)

/-- What a final memory is read to be on a device. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = arg0 m c ∧ s.mem ((c : Thread nD τ).loc main_v1) = OUT m (gst m c) c

theorem read_end (c : Dev nD) (s' : Phys nD τ sig (Elt F)) :
    iprop(Yc m c ∗ emp ∗ SI s') ⊢ (|={Set.univ}=> iprop(⌜QY m c s'.mem⌝ ∗ SI s') : sProp 𝕄) := by
  unfold Yc far₁
  iintro ⟨⟨Hu, Ha, Hv⟩, -, HSI⟩
  icombine HSI Ha gives %h1
  icombine HSI Hv gives %h2
  imod (Pipeline.unscopedSems0_read (X := unscopedSems0 c) (c := c) fupd_intro s') $$ [Hu HSI] with ⟨%h3, HSI⟩
  · isplitl [Hu] <;> iassumption
  imodintro
  isplitr
  · ipureintro
    exact ⟨h3, Buf.eq_of_forall_mem_univ h1, Buf.eq_of_forall_mem_univ h2⟩
  iexact HSI

/-! ## The run -/

set_option maxRecDepth 100000 in
set_option maxHeartbeats 0 in
/-- For any float values, from any memory with zero counters, every weakly fair execution ends, and every final state has
    on each device the arguments unchanged, the result at the computed contents, and every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OUT m (gst m c) c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Yc m) (Z := fun _ => iprop(emp))
    (hX := start_intro m ρ) (hin := phi0_intro m) (hout := phi1_exit m)
    (QY := QY m) (hY := read_end m)
    (hQ := fun _ h hs => ⟨fun c => ⟨(h c).2.2.2.1,
      ((h c).1 (0 : Fin 1)).trans ((dats m 0 c).arrAt_in (0 : Fin 1) rfl _), (h c).2.2.2.2⟩,
      sem_eq_zero hs fun c => (h c).2.2.1⟩)

end Cert.KernelIdeal.Own

end
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! The runs of the three programs, each read at its arguments and its counters. -/

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- Over any float values the kernel runs, leaves its arguments as they were and every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ fun r => (∀ c : Dev Cert.KernelIdeal.nD,
        r.2.mem ((c : Thread Cert.KernelIdeal.nD Cert.KernelIdeal.τ).loc Cert.KernelIdeal.main_arg0)
            = m ((c : Thread Cert.KernelIdeal.nD Cert.KernelIdeal.τ).loc Cert.KernelIdeal.main_arg0)
          ∧ r.2.mem ((c : Thread Cert.KernelIdeal.nD Cert.KernelIdeal.τ).loc Cert.KernelIdeal.main_arg1)
            = m ((c : Thread Cert.KernelIdeal.nD Cert.KernelIdeal.τ).loc Cert.KernelIdeal.main_arg1))
        ∧ r.2.sem = fun _ => 0 :=
  (θ_run (Cert.KernelIdeal.defs (F := F)) _ _).mono (fun _ h => ⟨fun c => ⟨(h.1 c).1, (h.1 c).2.1⟩, h.2⟩)
    (Cert.KernelIdeal.Own.run_main (F := F) m ρ)

/-- So it does over the extended reals. -/
theorem frame_kernelIdeal : Cert.quiescent_KernelIdeal := fun m ρ _ => frame_any (F := Ideal) m ρ

/-- The two kernels' body tables are one: their text is the same. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  have h : l = (0 : Fin 1) := Subsingleton.elim (α := Fin 1) _ _
  subst h
  obtain ⟨t, s⟩ := a
  show Cert.Kernel.cc0_body (F := Bits) .. = Cert.KernelIdeal.cc0_body (F := Bits) ..
  rfl

/-- So are their whole tables. -/
theorem defs_eq : Cert.Kernel.defs (F := Bits) = Cert.KernelIdeal.defs (F := Bits) :=
  congrArg (Pipeline.defs (Cert.Kernel.pcfgs (F := Bits))) bodies_eq

/-- The kernel, whose text is the idealised one's, does so on words. -/
theorem frame_kernel : Cert.quiescent_Kernel := fun m ρ _ => by
  rw [defs_eq]
  exact frame_any (F := Bits) m ρ

/-- The reference runs and leaves its arguments as they were; it has no counters. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Value.lean ====
module

public import proofs.«01_k».proof.Proof.Launch
public import proofs.«01_k».proof.Proof.Gen.ReferenceIdeal
public import Idealize.ShloMosaic.Lib.Pointwise
public import Idealize.ShloMosaic.Lib.IdealHost

/-! The normalised rows over the extended reals: the kernel's and the reference's. -/

@[expose] public section

noncomputable section

namespace Cert.ReferenceIdeal.Own

open Cert.ReferenceIdeal Cert.ReferenceIdeal.Gen Idealize.ShloMosaic

/-- The reference's result as a term of its two arguments. -/
def refOut (x : FVec Ideal S2x4096x2048 .f32) (g : FVec Ideal S2048 .f32) :
    FVec Ideal S4096x2048 .f32 :=
  mulf (Host.divf (Host.reduceAdd x (constant S_ .f32 0x00000000#32) reducesTo_S2x4096x2048_S4096x2048_d0 h_S_) (broadcastInDim S4096x2048 ![0, 1] bcast_S4096x1_S4096x2048_0_1 (Host.sqrt (addf (Host.divf (broadcastInDim S4096x1 ![0] bcast_S4096_S4096x1_0 (Host.reduceAdd (mulf (Host.reduceAdd x (constant S_ .f32 0x00000000#32) reducesTo_S2x4096x2048_S4096x2048_d0 h_S_) (Host.reduceAdd x (constant S_ .f32 0x00000000#32) reducesTo_S2x4096x2048_S4096x2048_d0 h_S_)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))

end Cert.ReferenceIdeal.Own

namespace Cert.KernelIdeal.Own

open Cert.KernelIdeal Cert.KernelIdeal.Gen
open Idealize.ShloMosaic Idealize.ShloMosaic.TcCoe
open Cert.ReferenceIdeal.Own (refOut)
open scoped BigOperators

/-- The mean of the squares of a row, made positive by the small constant. -/
def msq (s : Fin 2048 → EReal) : EReal :=
  Ideal.div (∑ k, s k * s k) (Ideal.ofBits .f32 0x45000000#32) + Ideal.ofBits .f32 0x358637BD#32

/-- A square is not negative. -/
theorem sq_nonneg (x : EReal) : 0 ≤ x * x := by
  induction x with
  | bot => simp
  | top => simp
  | coe r => exact_mod_cast mul_self_nonneg r

/-- The divisor is 2048. -/
theorem width : Ideal.ofBits .f32 0x45000000#32 = ((2048 : ℝ) : EReal) := by
  simp [Ideal.ofBits, Ideal.ieee]
  rw [← EReal.coe_mul]
  norm_num

/-- The small constant is positive. -/
theorem eps_pos : (0 : EReal) < Ideal.ofBits .f32 0x358637BD#32 := by
  simp [Ideal.ofBits, Ideal.ieee]
  try positivity

/-- The mean of the squares with the small constant is positive, whatever the row holds. -/
theorem msq_pos (s : Fin 2048 → EReal) : 0 < msq s := by
  refine lt_of_lt_of_le eps_pos (le_add_of_nonneg_left ?_)
  rw [width]
  unfold Ideal.div
  rw [if_neg (by norm_num)]
  exact mul_nonneg (Finset.sum_nonneg fun k _ => sq_nonneg (s k)) (by rw [← EReal.coe_inv]; exact_mod_cast (by norm_num : (0 : ℝ) ≤ 2048⁻¹))

/-- Dividing by the root of a positive number is multiplying by its reciprocal root. -/
theorem div_sqrt (a : EReal) {v : EReal} (hv : 0 < v) : Ideal.div a (Ideal.sqrt v) = a * Ideal.rsqrt v := by
  induction v with
  | bot => exact absurd hv (by simp)
  | top =>
    show Ideal.div a ⊤ = a * 0
    unfold Ideal.div
    rw [if_neg (by simp), EReal.inv_top]
  | coe r =>
    have hr : 0 < r := by exact_mod_cast hv
    have h1 : Ideal.sqrt (r : EReal) = (Real.sqrt r : EReal) := if_neg (not_lt.2 hr.le)
    have h2 : Ideal.rsqrt (r : EReal) = ((Real.sqrt r)⁻¹ : ℝ) :=
      (if_neg (not_lt.2 hr.le)).trans (if_neg hr.ne')
    rw [h1, h2]
    unfold Ideal.div
    rw [if_neg (by exact_mod_cast (Real.sqrt_pos.2 hr).ne'), EReal.coe_inv]

/-- What the kernel makes of two chunks, at a row and a column. -/
theorem pay2_apply (g : FVec Ideal S2048 .f32) (W K : FVec Ideal S32x2048 .f32) (r : Fin 32) (l : Fin 2048) :
    k0_pay2 g W K (ix2 r l)
      = (W (ix2 r l) + K (ix2 r l)) * Ideal.rsqrt (msq fun k => W (ix2 r k) + K (ix2 r k)) * g (ix1 l) := by
  pointwise [k0_pay2]
  rfl

/-- What the reference makes of the two partial sums, at a row and a column. -/
theorem refOut_apply (x : FVec Ideal Cert.ReferenceIdeal.S2x4096x2048 .f32) (g : FVec Ideal Cert.ReferenceIdeal.S2048 .f32)
    (r : Fin 4096) (l : Fin 2048) :
    refOut x g (ix2 r l)
      = (x (ix3 0 r l) + x (ix3 1 r l)) * Ideal.rsqrt (msq fun k => x (ix3 0 r k) + x (ix3 1 r k)) * g (ix1 l) := by
  rw [← div_sqrt _ (msq_pos _)]
  pointwise [refOut]
  simp only [Fin.sum_univ_two]
  rfl

variable (m : (ℓ : Loc nD τ sig) → Buf (Elt Ideal) ℓ)

/-- The device's coordinate along the second axis. -/
def yc (c : Dev nD) : Fin 2 := ⟨c.val / 2 % 2, Nat.mod_lt _ (by decide)⟩
/-- The row of the whole array a row of the device's result is. -/
def row (c : Dev nD) (a : Fin 2048) : Fin 4096 := ⟨2048 * (c.val / 2 % 2) + a.val, by omega⟩

theorem off1_eq : ∀ c : Dev nD, k0_off1 c = ![0, 2048 * (c.val / 2 % 2), 0] := by decide +kernel

/-- The rows of the device's half, as places of its argument. -/
theorem hM_at (c : Dev nD) (a b : Fin 2048) : (hM c).view.emb (ix2 a b) = ix3 (0 : Fin 1) (row c a) b := by
  refine (hM_emb c a b).trans (funext fun d => ?_)
  have h := off1_eq c
  match d with
  | ⟨0, _⟩ => exact Subsingleton.elim (α := Fin 1) _ _
  | ⟨1, _⟩ => exact Fin.ext (show k0_off1 c 1 + 1 * a.val = 2048 * (c.val / 2 % 2) + a.val by
      rw [h]; show 2048 * (c.val / 2 % 2) + 1 * a.val = _; omega)
  | ⟨2, _⟩ => exact Fin.ext (show k0_off1 c 2 + 1 * b.val = b.val by rw [h]; show 0 + 1 * b.val = _; omega)

theorem yc_sd (c : Dev nD) (q : ℕ) : (yc (sd c q)).val = 1 - (yc c).val := by
  show (4 * (q / 2 % 2) + 2 * (1 - c.val / 2 % 2) + q % 2) / 2 % 2 = 1 - c.val / 2 % 2
  omega

section
variable (x : FVec Ideal Cert.ReferenceIdeal.S2x4096x2048 .f32)
  (hx : ∀ c : Dev nD, ∀ (a : Fin 4096) (b : Fin 2048), arg0 m c (ix3 (0 : Fin 1) a b) = x (ix3 (yc c) a b))

include hx

theorem keep_at (c : Dev nD) (a b : Fin 2048) : keepc m c (ix2 a b) = x (ix3 (yc c) (row c a) b) :=
  (congrArg (arg0 m c) (hM_at c a b)).trans (hx c _ _)

theorem W_at (c : Dev nD) (a b : Fin 2048) :
    Wc m c (ix2 a b) = x (ix3 (yc (sd c (a.val / 512))) (row c a) b) :=
  (congrArg (arg0 m (sd c (a.val / 512))) (hM_at c a b)).trans (hx _ _ _)

/-- The received row and the kept one are the two partial sums of a row, in one order or the other. -/
theorem sum_at (c : Dev nD) (a b : Fin 2048) :
    Wc m c (ix2 a b) + keepc m c (ix2 a b) = x (ix3 0 (row c a) b) + x (ix3 1 (row c a) b) := by
  rw [W_at m x hx, keep_at m x hx]
  have h := yc_sd c (a.val / 512)
  generalize yc (sd c (a.val / 512)) = u at h ⊢
  generalize yc c = v at h ⊢
  match v, u, h with
  | 0, 1, _ => exact add_comm _ _
  | 1, 0, _ => rfl

/-- The device's result is the reference's, at the rows of the device. -/
theorem OUT_at (g : Vec Ideal S2048 .f32) (c : Dev nD) (a b : Fin 2048) :
    OUT m g c (ix2 a b) = refOut x g (ix2 (row c a) b) := by
  have hq : ∀ k : Fin 2048, (rj (chunkOf (ix2 a b))).emb
      (ix2 (⟨a.val % 32, Nat.mod_lt _ (by decide)⟩ : Fin 32) k) = ix2 a k := fun k =>
    (rj_emb _ _ _).trans (funext fun d => match d with
      | ⟨0, _⟩ => Fin.ext (show 32 * (a.val / 32) + a.val % 32 = a.val by omega)
      | ⟨1, _⟩ => rfl)
  have hs : ∀ k : Fin 2048, rdW (chunkOf (ix2 a b)) (Wc m c) (ix2 (⟨a.val % 32, Nat.mod_lt _ (by decide)⟩ : Fin 32) k)
      + rdK (chunkOf (ix2 a b)) (keepc m c) (ix2 (⟨a.val % 32, Nat.mod_lt _ (by decide)⟩ : Fin 32) k)
      = x (ix3 0 (row c a) k) + x (ix3 1 (row c a) k) := fun k =>
    (congrArg₂ (· + ·) (congrArg (Wc m c) (hq k)) (congrArg (keepc m c) (hq k))).trans (sum_at m x hx c a k)
  refine (pay2_apply (gam g) _ _ _ b).trans ?_
  rw [refOut_apply]
  pointwise [gam, k0_pay1]
  exact congrArg₂ (fun u s => u * Ideal.rsqrt (msq s) * g (ix1 b)) (hs b) (funext hs)

end

end Cert.KernelIdeal.Own

end
-- ==== Proof.Algebra.lean ====
module

public import proofs.«01_k».proof.Proof.Frames
public import proofs.«01_k».proof.Proof.Value

/-! The kernel's result on each device is its rows of the reference's. -/

@[expose] public section

noncomputable section

namespace Cert.Proof

open Idealize.ShloMosaic Idealize.ShloMosaic.TcCoe Idealize.SL.Sem
open Cert.KernelIdeal Cert.KernelIdeal.Own

attribute [local instance] Cert.Kernel.Gen.facts Cert.KernelIdeal.Gen.facts Cert.ReferenceIdeal.Gen.facts

/-- The scale staged for the body is the whole second argument. -/
theorem gst_eq (m : (ℓ : Loc nD τ sig) → Buf (Elt Ideal) ℓ) (c : Dev nD) :
    gst m c = m ((c : Thread nD τ).loc main_arg1) :=
  funext fun i => congrArg (m ((c : Thread nD τ).loc main_arg1)) (funext fun d => match d with
    | ⟨0, _⟩ => Fin.ext (show 0 + 1 * (i 0).val = (i 0).val by omega))

/-- A device's block of an array of the two partial sums is the one its coordinate names. -/
theorem block_in (x : FVec Ideal Cert.ReferenceIdeal.S2x4096x2048 .f32) (c : Dev nD) (a : Fin 4096) (b : Fin 2048) :
    (Layout.blockN ⟨3, ![1, 4096, 2048]⟩ ⟨3, ![2, 4096, 2048]⟩ (Layout.meshBlock [2, 2, 2] ![[1], [], []] c) x)
      (ix3 (0 : Fin 1) a b) = x (ix3 (yc c) a b) := by
  have h : ∀ c : Dev nD, Layout.meshLin [2, 2, 2] c.val [1] = c.val / 2 % 2 := by decide
  refine congrArg x (funext fun d => ?_)
  match d with
  | ⟨0, _⟩ => exact Fin.ext (show Layout.meshLin [2, 2, 2] c.val [1] * 1 + 0 = c.val / 2 % 2 by rw [h]; omega)
  | ⟨1, _⟩ => exact Fin.ext (show 0 * 4096 + a.val = a.val by omega)
  | ⟨2, _⟩ => exact Fin.ext (show 0 * 2048 + b.val = b.val by omega)

/-- A device's block of the whole result is its rows. -/
theorem block_out (v : FVec Ideal Cert.ReferenceIdeal.S4096x2048 .f32) (c : Dev nD) (a b : Fin 2048) :
    (Layout.blockN ⟨2, ![2048, 2048]⟩ ⟨2, ![4096, 2048]⟩ (Layout.meshBlock [2, 2, 2] ![[1], []] c) v)
      (ix2 a b) = v (ix2 (row c a) b) := by
  have h : ∀ c : Dev nD, Layout.meshLin [2, 2, 2] c.val [1] = c.val / 2 % 2 := by decide
  refine congrArg v (funext fun d => ?_)
  match d with
  | ⟨0, _⟩ => exact Fin.ext (show Layout.meshLin [2, 2, 2] c.val [1] * 2048 + a.val = 2048 * (c.val / 2 % 2) + a.val by
      rw [h]; omega)
  | ⟨1, _⟩ => exact Fin.ext (show 0 * 2048 + b.val = b.val by omega)

/-- Over the extended reals each device ends with its rows of what the reference computes of the whole arrays. -/
theorem algebraic : Cert.algebraic_KernelIdeal_ReferenceIdeal := by
  intro m g m' g' _ hagree
  refine ⟨Cert.ReferenceIdeal.Own.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono
      (fun _ h c => ⟨(h.1 c).2.2.trans (funext fun i => ?_), (h.1 c).1, (h.1 c).2.1⟩) (run_main (F := Ideal) m g)
    obtain ⟨a, b, rfl⟩ : ∃ (a b : Fin 2048), i = ix2 a b := ⟨i 0, i 1, Idealize.ShloMosaic.ValueIdx.eq_ix2 i⟩
    refine (OUT_at m (m' (((0 : Dev Cert.ReferenceIdeal.nD).tc : Thread Cert.ReferenceIdeal.nD Cert.ReferenceIdeal.τ).loc
      Cert.ReferenceIdeal.main_arg0)) (fun c a b => (congrFun (hagree c).1 _).trans (block_in _ c a b)) (gst m c) c a b).trans ?_
    rw [gst_eq, (hagree c).2]
    exact (block_out _ c a b).symm
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
